-- ==== Defs.lean ====
def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActReferenceIdeal (m : (ℓ : Loc Cert.ActReferenceIdeal.nD Cert.ActReferenceIdeal.τ Cert.ActReferenceIdeal.sig) → Buf (Elt Ideal) ℓ) : Prop :=
  True

def Pre_Weight (m : (ℓ : Loc Cert.Weight.nD Cert.Weight.τ Cert.Weight.sig) → Buf (Elt Bits) ℓ) : Prop :=
  True

def Pre_WeightIdeal (m : (ℓ : Loc Cert.WeightIdeal.nD Cert.WeightIdeal.τ Cert.WeightIdeal.sig) → Buf (Elt Ideal) ℓ) : Prop :=
  True

def Pre_WeightReferenceIdeal (m : (ℓ : Loc Cert.WeightReferenceIdeal.nD Cert.WeightReferenceIdeal.τ Cert.WeightReferenceIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0))
      ∧ r.2.sem = fun _ => 0)

def quiescent_Weight [hWeight : Cert.Weight.Facts] : Prop :=
  ∀ (m : (ℓ : Loc Cert.Weight.nD Cert.Weight.τ Cert.Weight.sig) → Buf (Elt Bits) ℓ) (g : Dev Cert.Weight.nD → PrngReg), Pre_Weight m →
    θ_run (Cert.Weight.defs (F := Bits)) (onTc (τ := Cert.Weight.τ) (Cert.Weight.main (F := Bits))) ⟨m, fun _ => 0, g⟩ (fun r => (∀ c : Dev Cert.Weight.nD,
      r.2.mem ((c.tc : Thread Cert.Weight.nD Cert.Weight.τ).loc Cert.Weight.main_arg0) = m ((c.tc : Thread Cert.Weight.nD Cert.Weight.τ).loc Cert.Weight.main_arg0)
      ∧ r.2.mem ((c.tc : Thread Cert.Weight.nD Cert.Weight.τ).loc Cert.Weight.main_arg1) = m ((c.tc : Thread Cert.Weight.nD Cert.Weight.τ).loc Cert.Weight.main_arg1)
      ∧ r.2.mem ((c.tc : Thread Cert.Weight.nD Cert.Weight.τ).loc Cert.Weight.main_arg2) = m ((c.tc : Thread Cert.Weight.nD Cert.Weight.τ).loc Cert.Weight.main_arg2)
      ∧ r.2.mem ((c.tc : Thread Cert.Weight.nD Cert.Weight.τ).loc Cert.Weight.main_arg3) = m ((c.tc : Thread Cert.Weight.nD Cert.Weight.τ).loc Cert.Weight.main_arg3)
      ∧ r.2.mem ((c.tc : Thread Cert.Weight.nD Cert.Weight.τ).loc Cert.Weight.main_arg4) = m ((c.tc : Thread Cert.Weight.nD Cert.Weight.τ).loc Cert.Weight.main_arg4))
      ∧ r.2.sem = fun _ => 0)

def quiescent_WeightIdeal [hWeightIdeal : Cert.WeightIdeal.Facts] : Prop :=
  ∀ (m : (ℓ : Loc Cert.WeightIdeal.nD Cert.WeightIdeal.τ Cert.WeightIdeal.sig) → Buf (Elt Ideal) ℓ) (g : Dev Cert.WeightIdeal.nD → PrngReg), Pre_WeightIdeal m →
    θ_run (Cert.WeightIdeal.defs (F := Ideal)) (onTc (τ := Cert.WeightIdeal.τ) (Cert.WeightIdeal.main (F := Ideal))) ⟨m, fun _ => 0, g⟩ (fun r => (∀ c : Dev Cert.WeightIdeal.nD,
      r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
      ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1)
      ∧ r.2.mem ((c.tc : Thread Cert.WeightIdeal.nD Cert.WeightIdeal.τ).loc Cert.WeightIdeal.main_arg2) = m ((c.tc : Thread Cert.WeightIdeal.nD Cert.WeightIdeal.τ).loc Cert.WeightIdeal.main_arg2)
      ∧ r.2.mem ((c.tc : Thread Cert.WeightIdeal.nD Cert.WeightIdeal.τ).loc Cert.WeightIdeal.main_arg3) = m ((c.tc : Thread Cert.WeightIdeal.nD Cert.WeightIdeal.τ).loc Cert.WeightIdeal.main_arg3)
      ∧ r.2.mem ((c.tc : Thread Cert.WeightIdeal.nD Cert.WeightIdeal.τ).loc Cert.WeightIdeal.main_arg4) = m ((c.tc : Thread Cert.WeightIdeal.nD Cert.WeightIdeal.τ).loc Cert.WeightIdeal.main_arg4))
      ∧ r.2.sem = fun _ => 0)

def quiescent_WeightReferenceIdeal [hWeightReferenceIdeal : Cert.WeightReferenceIdeal.Facts] : Prop :=
  ∀ (m : (ℓ : Loc Cert.WeightReferenceIdeal.nD Cert.WeightReferenceIdeal.τ Cert.WeightReferenceIdeal.sig) → Buf (Elt Ideal) ℓ) (g : Dev Cert.WeightReferenceIdeal.nD → PrngReg), Pre_WeightReferenceIdeal m →
    θ_run (Cert.WeightReferenceIdeal.defs (F := Ideal)) (onTc (τ := Cert.WeightReferenceIdeal.τ) (Cert.WeightReferenceIdeal.main (F := Ideal))) ⟨m, fun _ => 0, g⟩ (fun r => (∀ c : Dev Cert.WeightReferenceIdeal.nD,
      r.2.mem ((c.tc : Thread Cert.WeightReferenceIdeal.nD Cert.WeightReferenceIdeal.τ).loc Cert.WeightReferenceIdeal.main_arg0) = m ((c.tc : Thread Cert.WeightReferenceIdeal.nD Cert.WeightReferenceIdeal.τ).loc Cert.WeightReferenceIdeal.main_arg0)
      ∧ r.2.mem ((c.tc : Thread Cert.WeightReferenceIdeal.nD Cert.WeightReferenceIdeal.τ).loc Cert.WeightReferenceIdeal.main_arg1) = m ((c.tc : Thread Cert.WeightReferenceIdeal.nD Cert.WeightReferenceIdeal.τ).loc Cert.WeightReferenceIdeal.main_arg1)
      ∧ r.2.mem ((c.tc : Thread Cert.WeightReferenceIdeal.nD Cert.WeightReferenceIdeal.τ).loc Cert.WeightReferenceIdeal.main_arg2) = m ((c.tc : Thread Cert.WeightReferenceIdeal.nD Cert.WeightReferenceIdeal.τ).loc Cert.WeightReferenceIdeal.main_arg2)
      ∧ r.2.mem ((c.tc : Thread Cert.WeightReferenceIdeal.nD Cert.WeightReferenceIdeal.τ).loc Cert.WeightReferenceIdeal.main_arg3) = m ((c.tc : Thread Cert.WeightReferenceIdeal.nD Cert.WeightReferenceIdeal.τ).loc Cert.WeightReferenceIdeal.main_arg3)
      ∧ r.2.mem ((c.tc : Thread Cert.WeightReferenceIdeal.nD Cert.WeightReferenceIdeal.τ).loc Cert.WeightReferenceIdeal.main_arg4) = m ((c.tc : Thread Cert.WeightReferenceIdeal.nD Cert.WeightReferenceIdeal.τ).loc Cert.WeightReferenceIdeal.main_arg4))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Act_ActIdeal : Prop :=
  True

def algebraic_ActIdeal_ActReferenceIdeal [hActIdeal : Cert.ActIdeal.Facts] [hActReferenceIdeal : Cert.ActReferenceIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActIdeal m →
    (∀ c : Dev Cert.ActIdeal.nD,
      m' ((c.tc : Thread Cert.ActReferenceIdeal.nD Cert.ActReferenceIdeal.τ).loc Cert.ActReferenceIdeal.main_arg0) = m ((c.tc : Thread Cert.ActIdeal.nD Cert.ActIdeal.τ).loc Cert.ActIdeal.main_arg0)) →
    ∃ (v0 : (c : Dev Cert.ActIdeal.nD) → Buf (Elt Ideal) ((c.tc : Thread Cert.ActIdeal.nD Cert.ActIdeal.τ).loc Cert.ActIdeal.main_v0_0)) (v1 : (c : Dev Cert.ActIdeal.nD) → Buf (Elt Ideal) ((c.tc : Thread Cert.ActIdeal.nD Cert.ActIdeal.τ).loc Cert.ActIdeal.main_v0_1)) (v2 : (c : Dev Cert.ActIdeal.nD) → Buf (Elt Ideal) ((c.tc : Thread Cert.ActIdeal.nD Cert.ActIdeal.τ).loc Cert.ActIdeal.main_v0_2)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0_0) = v0 c
          ∧ r.2.mem ((c.tc : Thread Cert.ActIdeal.nD Cert.ActIdeal.τ).loc Cert.ActIdeal.main_v0_1) = v1 c
          ∧ r.2.mem ((c.tc : Thread Cert.ActIdeal.nD Cert.ActIdeal.τ).loc Cert.ActIdeal.main_v0_2) = v2 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v0_0) = v0 c
          ∧ r.2.mem ((c.tc : Thread Cert.ActReferenceIdeal.nD Cert.ActReferenceIdeal.τ).loc Cert.ActReferenceIdeal.main_v0_1) = v1 c
          ∧ r.2.mem ((c.tc : Thread Cert.ActReferenceIdeal.nD Cert.ActReferenceIdeal.τ).loc Cert.ActReferenceIdeal.main_v0_2) = v2 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0))

def preserves_Weight_WeightIdeal : Prop :=
  True

def algebraic_WeightIdeal_WeightReferenceIdeal [hWeightIdeal : Cert.WeightIdeal.Facts] [hWeightReferenceIdeal : Cert.WeightReferenceIdeal.Facts] : Prop :=
  ∀ (m : (ℓ : Loc Cert.WeightIdeal.nD Cert.WeightIdeal.τ Cert.WeightIdeal.sig) → Buf (Elt Ideal) ℓ) (g : Dev Cert.WeightIdeal.nD → PrngReg)
    (m' : (ℓ : Loc Cert.WeightReferenceIdeal.nD Cert.WeightReferenceIdeal.τ Cert.WeightReferenceIdeal.sig) → Buf (Elt Ideal) ℓ) (g' : Dev Cert.WeightReferenceIdeal.nD → PrngReg), Pre_WeightIdeal m →
    (∀ c : Dev Cert.WeightIdeal.nD,
      m' ((c.tc : Thread Cert.WeightReferenceIdeal.nD Cert.WeightReferenceIdeal.τ).loc Cert.WeightReferenceIdeal.main_arg0) = m ((c.tc : Thread Cert.WeightIdeal.nD Cert.WeightIdeal.τ).loc Cert.WeightIdeal.main_arg0)
      ∧ m' ((c.tc : Thread Cert.WeightReferenceIdeal.nD Cert.WeightReferenceIdeal.τ).loc Cert.WeightReferenceIdeal.main_arg1) = m ((c.tc : Thread Cert.WeightIdeal.nD Cert.WeightIdeal.τ).loc Cert.WeightIdeal.main_arg1)
      ∧ m' ((c.tc : Thread Cert.WeightReferenceIdeal.nD Cert.WeightReferenceIdeal.τ).loc Cert.WeightReferenceIdeal.main_arg2) = m ((c.tc : Thread Cert.WeightIdeal.nD Cert.WeightIdeal.τ).loc Cert.WeightIdeal.main_arg2)
      ∧ m' ((c.tc : Thread Cert.WeightReferenceIdeal.nD Cert.WeightReferenceIdeal.τ).loc Cert.WeightReferenceIdeal.main_arg3) = m ((c.tc : Thread Cert.WeightIdeal.nD Cert.WeightIdeal.τ).loc Cert.WeightIdeal.main_arg3)
      ∧ m' ((c.tc : Thread Cert.WeightReferenceIdeal.nD Cert.WeightReferenceIdeal.τ).loc Cert.WeightReferenceIdeal.main_arg4) = m ((c.tc : Thread Cert.WeightIdeal.nD Cert.WeightIdeal.τ).loc Cert.WeightIdeal.main_arg4)) →
    ∃ (v0 : (c : Dev Cert.WeightIdeal.nD) → Buf (Elt Ideal) ((c.tc : Thread Cert.WeightIdeal.nD Cert.WeightIdeal.τ).loc Cert.WeightIdeal.main_v5_0)) (v1 : (c : Dev Cert.WeightIdeal.nD) → Buf (Elt Ideal) ((c.tc : Thread Cert.WeightIdeal.nD Cert.WeightIdeal.τ).loc Cert.WeightIdeal.main_v6)) (v2 : (c : Dev Cert.WeightIdeal.nD) → Buf (Elt Ideal) ((c.tc : Thread Cert.WeightIdeal.nD Cert.WeightIdeal.τ).loc Cert.WeightIdeal.main_v5_2)) (v3 : (c : Dev Cert.WeightIdeal.nD) → Buf (Elt Ideal) ((c.tc : Thread Cert.WeightIdeal.nD Cert.WeightIdeal.τ).loc Cert.WeightIdeal.main_v5_3)),
      θ_run (Cert.WeightIdeal.defs (F := Ideal)) (onTc (τ := Cert.WeightIdeal.τ) (Cert.WeightIdeal.main (F := Ideal))) ⟨m, fun _ => 0, g⟩ (fun r => ∀ c : Dev Cert.WeightIdeal.nD,
          r.2.mem ((c.tc : Thread Cert.WeightIdeal.nD Cert.WeightIdeal.τ).loc Cert.WeightIdeal.main_v5_0) = v0 c
          ∧ r.2.mem ((c.tc : Thread Cert.WeightIdeal.nD Cert.WeightIdeal.τ).loc Cert.WeightIdeal.main_v6) = v1 c
          ∧ r.2.mem ((c.tc : Thread Cert.WeightIdeal.nD Cert.WeightIdeal.τ).loc Cert.WeightIdeal.main_v5_2) = v2 c
          ∧ r.2.mem ((c.tc : Thread Cert.WeightIdeal.nD Cert.WeightIdeal.τ).loc Cert.WeightIdeal.main_v5_3) = v3 c
          ∧ r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
          ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1)
          ∧ r.2.mem ((c.tc : Thread Cert.WeightIdeal.nD Cert.WeightIdeal.τ).loc Cert.WeightIdeal.main_arg2) = m ((c.tc : Thread Cert.WeightIdeal.nD Cert.WeightIdeal.τ).loc Cert.WeightIdeal.main_arg2)
          ∧ r.2.mem ((c.tc : Thread Cert.WeightIdeal.nD Cert.WeightIdeal.τ).loc Cert.WeightIdeal.main_arg3) = m ((c.tc : Thread Cert.WeightIdeal.nD Cert.WeightIdeal.τ).loc Cert.WeightIdeal.main_arg3)
          ∧ r.2.mem ((c.tc : Thread Cert.WeightIdeal.nD Cert.WeightIdeal.τ).loc Cert.WeightIdeal.main_arg4) = m ((c.tc : Thread Cert.WeightIdeal.nD Cert.WeightIdeal.τ).loc Cert.WeightIdeal.main_arg4))
      ∧ θ_run (Cert.WeightReferenceIdeal.defs (F := Ideal)) (onTc (τ := Cert.WeightReferenceIdeal.τ) (Cert.WeightReferenceIdeal.main (F := Ideal))) ⟨m', fun _ => 0, g'⟩ (fun r => ∀ c : Dev Cert.WeightReferenceIdeal.nD,
          r.2.mem ((c.tc : Thread Cert.WeightReferenceIdeal.nD Cert.WeightReferenceIdeal.τ).loc Cert.WeightReferenceIdeal.main_v0_0) = v0 c
          ∧ r.2.mem ((c.tc : Thread Cert.WeightReferenceIdeal.nD Cert.WeightReferenceIdeal.τ).loc Cert.WeightReferenceIdeal.main_v0_1) = v1 c
          ∧ r.2.mem ((c.tc : Thread Cert.WeightReferenceIdeal.nD Cert.WeightReferenceIdeal.τ).loc Cert.WeightReferenceIdeal.main_v0_2) = v2 c
          ∧ r.2.mem ((c.tc : Thread Cert.WeightReferenceIdeal.nD Cert.WeightReferenceIdeal.τ).loc Cert.WeightReferenceIdeal.main_v0_3) = v3 c
          ∧ r.2.mem ((c.tc : Thread Cert.WeightReferenceIdeal.nD Cert.WeightReferenceIdeal.τ).loc Cert.WeightReferenceIdeal.main_arg0) = m' ((c.tc : Thread Cert.WeightReferenceIdeal.nD Cert.WeightReferenceIdeal.τ).loc Cert.WeightReferenceIdeal.main_arg0)
          ∧ r.2.mem ((c.tc : Thread Cert.WeightReferenceIdeal.nD Cert.WeightReferenceIdeal.τ).loc Cert.WeightReferenceIdeal.main_arg1) = m' ((c.tc : Thread Cert.WeightReferenceIdeal.nD Cert.WeightReferenceIdeal.τ).loc Cert.WeightReferenceIdeal.main_arg1)
          ∧ r.2.mem ((c.tc : Thread Cert.WeightReferenceIdeal.nD Cert.WeightReferenceIdeal.τ).loc Cert.WeightReferenceIdeal.main_arg2) = m' ((c.tc : Thread Cert.WeightReferenceIdeal.nD Cert.WeightReferenceIdeal.τ).loc Cert.WeightReferenceIdeal.main_arg2)
          ∧ r.2.mem ((c.tc : Thread Cert.WeightReferenceIdeal.nD Cert.WeightReferenceIdeal.τ).loc Cert.WeightReferenceIdeal.main_arg3) = m' ((c.tc : Thread Cert.WeightReferenceIdeal.nD Cert.WeightReferenceIdeal.τ).loc Cert.WeightReferenceIdeal.main_arg3)
          ∧ r.2.mem ((c.tc : Thread Cert.WeightReferenceIdeal.nD Cert.WeightReferenceIdeal.τ).loc Cert.WeightReferenceIdeal.main_arg4) = m' ((c.tc : Thread Cert.WeightReferenceIdeal.nD Cert.WeightReferenceIdeal.τ).loc Cert.WeightReferenceIdeal.main_arg4))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hAct : Cert.Act.Facts) (hActIdeal : Cert.ActIdeal.Facts) (hActReferenceIdeal : Cert.ActReferenceIdeal.Facts) (hWeight : Cert.Weight.Facts) (hWeightIdeal : Cert.WeightIdeal.Facts) (hWeightReferenceIdeal : Cert.WeightReferenceIdeal.Facts) (hKernel : Cert.Kernel.Facts) (hKernelIdeal : Cert.KernelIdeal.Facts) (hReferenceIdeal : Cert.ReferenceIdeal.Facts),
    quiescent_Act (hAct := hAct)
    ∧ quiescent_ActIdeal (hActIdeal := hActIdeal)
    ∧ quiescent_ActReferenceIdeal (hActReferenceIdeal := hActReferenceIdeal)
    ∧ quiescent_Weight (hWeight := hWeight)
    ∧ quiescent_WeightIdeal (hWeightIdeal := hWeightIdeal)
    ∧ quiescent_WeightReferenceIdeal (hWeightReferenceIdeal := hWeightReferenceIdeal)
    ∧ quiescent_Kernel (hKernel := hKernel)
    ∧ quiescent_KernelIdeal (hKernelIdeal := hKernelIdeal)
    ∧ quiescent_ReferenceIdeal (hReferenceIdeal := hReferenceIdeal)
    ∧ preserves_Act_ActIdeal
    ∧ algebraic_ActIdeal_ActReferenceIdeal (hActIdeal := hActIdeal) (hActReferenceIdeal := hActReferenceIdeal)
    ∧ preserves_Weight_WeightIdeal
    ∧ algebraic_WeightIdeal_WeightReferenceIdeal (hWeightIdeal := hWeightIdeal) (hWeightReferenceIdeal := hWeightReferenceIdeal)
    ∧ preserves_Kernel_KernelIdeal
    ∧ algebraic_KernelIdeal_ReferenceIdeal (hKernelIdeal := hKernelIdeal) (hReferenceIdeal := hReferenceIdeal)
-- ==== Act.lean ====
abbrev S2x4096x3072 : Shape := ⟨3, ![2, 4096, 3072]⟩
abbrev S2x4096x24 : Shape := ⟨3, ![2, 4096, 24]⟩
abbrev S1x256x3072 : Shape := ⟨3, ![1, 256, 3072]⟩
abbrev S1x256x24 : Shape := ⟨3, ![1, 256, 24]⟩
abbrev S32x3072 : Shape := ⟨2, ![32, 3072]⟩
abbrev S32x128 : Shape := ⟨2, ![32, 128]⟩
abbrev S1x32x128 : Shape := ⟨3, ![1, 32, 128]⟩
abbrev S32 : Shape := ⟨1, ![32]⟩
abbrev S32x1 : Shape := ⟨2, ![32, 1]⟩
abbrev S32x24 : Shape := ⟨2, ![32, 24]⟩
abbrev S1x32x24 : Shape := ⟨3, ![1, 32, 24]⟩

abbrev nBuf : Space → Nat
  | .hbm => 4
  | .vmem => 10
  | .smem => 0
  | _ => 0

abbrev bufTy : (tb : Table) → Fin (tcTables nBuf tb) → BufTy
  | .hbm, ⟨0, _⟩ => ⟨S2x4096x3072, .bf16⟩
  | .hbm, ⟨1, _⟩ => ⟨S2x4096x3072, .fp8e4m3⟩
  | .hbm, ⟨2, _⟩ => ⟨S2x4096x24, .f32⟩
  | .hbm, ⟨3, _⟩ => ⟨S2x4096x3072, .bf16⟩
  | .local _ .vmem, ⟨0, _⟩ => ⟨S1x256x3072, .bf16⟩
  | .local _ .vmem, ⟨1, _⟩ => ⟨S1x256x3072, .bf16⟩
  | .local _ .vmem, ⟨2, _⟩ => ⟨S1x256x3072, .fp8e4m3⟩
  | .local _ .vmem, ⟨3, _⟩ => ⟨S1x256x3072, .fp8e4m3⟩
  | .local _ .vmem, ⟨4, _⟩ => ⟨S1x256x24, .f32⟩
  | .local _ .vmem, ⟨5, _⟩ => ⟨S1x256x24, .f32⟩
  | .local _ .vmem, ⟨6, _⟩ => ⟨S1x256x3072, .bf16⟩
  | .local _ .vmem, ⟨7, _⟩ => ⟨S1x256x3072, .bf16⟩
  | .local _ .vmem, ⟨8, _⟩ => ⟨S32x3072, .f32⟩
  | .local _ .vmem, ⟨9, _⟩ => ⟨S32x3072, .f32⟩
  | _, _ => ⟨S2x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c32_i32 : BitVec 32 := 32#32
  let v2 : BitVec 32 := Scalar.muli arg8 c32_i32
  v2
def k0_off1 (k0_t1 : Fin k0_t1_loop.trips) : Fin 3 → Nat :=
  let c0 : Index := 0#32
  let c0_i32 : BitVec 32 := 0#32
  let c1_i32 : BitVec 32 := 1#32
  let arg8 : BitVec 32 := Scf.iv c0_i32 c1_i32 k0_t1
  let c32_i32 : BitVec 32 := 32#32
  let v2 : BitVec 32 := Scalar.muli arg8 c32_i32
  let v3 : BitVec 32 := v2
  let v5 : Index := Scalar.indexCast v3
  let c0_1 : Index := 0#32
  ![0, v5.toNat, 0]
def k0_off2 (k0_t1 : Fin k0_t1_loop.trips) : Fin 3 → Nat :=
  let c0_2 : Index := 0#32
  let c0_i32 : BitVec 32 := 0#32
  let c1_i32 : BitVec 32 := 1#32
  let arg8 : BitVec 32 := Scf.iv c0_i32 c1_i32 k0_t1
  let c32_i32 : BitVec 32 := 32#32
  let v2 : BitVec 32 := Scalar.muli arg8 c32_i32
  let v3 : BitVec 32 := v2
  let v10 : Index := Scalar.indexCast v3
  let c128 : Index := 128#32
  ![0, v10.toNat, 128]
def k0_off3 (k0_t1 : Fin k0_t1_loop.trips) : Fin 3 → Nat :=
  let c0_3 : Index := 0#32
  let c0_i32 : BitVec 32 := 0#32
  let c1_i32 : BitVec 32 := 1#32
  let arg8 : BitVec 32 := Scf.iv c0_i32 c1_i32 k0_t1
  let c32_i32 : BitVec 32 := 32#32
  let v2 : BitVec 32 := Scalar.muli arg8 c32_i32
  let v3 : BitVec 32 := v2
  let v15 : Index := Scalar.indexCast v3
  let c256 : Index := 256#32
  ![0, v15.toNat, 256]
def k0_off4 (k0_t1 : Fin k0_t1_loop.trips) : Fin 3 → Nat :=
  let c0_4 : Index := 0#32
  let c0_i32 : BitVec 32 := 0#32
  let c1_i32 : BitVec 32 := 1#32
  let arg8 : BitVec 32 := Scf.iv c0_i32 c1_i32 k0_t1
  let c32_i32 : BitVec 32 := 32#32
  let v2 : BitVec 32 := Scalar.muli arg8 c32_i32
  let v3 : BitVec 32 := v2
  let v20 : Index := Scalar.indexCast v3
  let c384 : Index := 384#32
  ![0, v20.toNat, 384]
def k0_off5 (k0_t1 : Fin k0_t1_loop.trips) : Fin 3 → Nat :=
  let c0_5 : Index := 0#32
  let c0_i32 : BitVec 32 := 0#32
  let c1_i32 : BitVec 32 := 1#32
  let arg8 : BitVec 32 := Scf.iv c0_i32 c1_i32 k0_t1
  let c32_i32 : BitVec 32 := 32#32
  let v2 : BitVec 32 := Scalar.muli arg8 c32_i32
  let v3 : BitVec 32 := v2
  let v25 : Index := Scalar.indexCast v3
  let c512 : Index := 512#32
  ![0, v25.toNat, 512]
def k0_off6 (k0_t1 : Fin k0_t1_loop.trips) : Fin 3 → Nat :=
  let c0_6 : Index := 0#32
  let c0_i32 : BitVec 32 := 0#32
  let c1_i32 : BitVec 32 := 1#32
  let arg8 : BitVec 32 := Scf.iv c0_i32 c1_i32 k0_t1
  let c32_i32 : BitVec 32 := 32#32
  let v2 : BitVec 32 := Scalar.muli arg8 c32_i32
  let v3 : BitVec 32 := v2
  let v30 : Index := Scalar.indexCast v3
  let c640 : Index := 640#32
  ![0, v30.toNat, 640]
def k0_off7 (k0_t1 : Fin k0_t1_loop.trips) : Fin 3 → Nat :=
  let c0_7 : Index := 0#32
  let c0_i32 : BitVec 32 := 0#32
  let c1_i32 : BitVec 32 := 1#32
  let arg8 : BitVec 32 := Scf.iv c0_i32 c1_i32 k0_t1
  let c32_i32 : BitVec 32 := 32#32
  let v2 : BitVec 32 := Scalar.muli arg8 c32_i32
  let v3 : BitVec 32 := v2
  let v35 : Index := Scalar.indexCast v3
  let c768 : Index := 768#32
  ![0, v35.toNat, 768]
def k0_off8 (k0_t1 : Fin k0_t1_loop.trips) : Fin 3 → Nat :=
  let c0_8 : Index := 0#32
  let c0_i32 : BitVec 32 := 0#32
  let c1_i32 : BitVec 32 := 1#32
  let arg8 : BitVec 32 := Scf.iv c0_i32 c1_i32 k0_t1
  let c32_i32 : BitVec 32 := 32#32
  let v2 : BitVec 32 := Scalar.muli arg8 c32_i32
  let v3 : BitVec 32 := v2
  let v40 : Index := Scalar.indexCast v3
  let c896 : Index := 896#32
  ![0, v40.toNat, 896]
def k0_off9 (k0_t1 : Fin k0_t1_loop.trips) : Fin 3 → Nat :=
  let c0_9 : Index := 0#32
  let c0_i32 : BitVec 32 := 0#32
  let c1_i32 : BitVec 32 := 1#32
  let arg8 : BitVec 32 := Scf.iv c0_i32 c1_i32 k0_t1
  let c32_i32 : BitVec 32 := 32#32
  let v2 : BitVec 32 := Scalar.muli arg8 c32_i32
  let v3 : BitVec 32 := v2
  let v45 : Index := Scalar.indexCast v3
  let c1024 : Index := 1024#32
  ![0, v45.toNat, 1024]
def k0_off10 (k0_t1 : Fin k0_t1_loop.trips) : Fin 3 → Nat :=
  let c0_10 : Index := 0#32
  let c0_i32 : BitVec 32 := 0#32
  let c1_i32 : BitVec 32 := 1#32
  let arg8 : BitVec 32 := Scf.iv c0_i32 c1_i32 k0_t1
  let c32_i32 : BitVec 32 := 32#32
  let v2 : BitVec 32 := Scalar.muli arg8 c32_i32
  let v3 : BitVec 32 := v2
  let v50 : Index := Scalar.indexCast v3
  let c1152 : Index := 1152#32
  ![0, v50.toNat, 1152]
def k0_off11 (k0_t1 : Fin k0_t1_loop.trips) : Fin 3 → Nat :=
  let c0_11 : Index := 0#32
  let c0_i32 : BitVec 32 := 0#32
  let c1_i32 : BitVec 32 := 1#32
  let arg8 : BitVec 32 := Scf.iv c0_i32 c1_i32 k0_t1
  let c32_i32 : BitVec 32 := 32#32
  let v2 : BitVec 32 := Scalar.muli arg8 c32_i32
  let v3 : BitVec 32 := v2
  let v55 : Index := Scalar.indexCast v3
  let c1280 : Index := 1280#32
  ![0, v55.toNat, 1280]
def k0_off12 (k0_t1 : Fin k0_t1_loop.trips) : Fin 3 → Nat :=
  let c0_12 : Index := 0#32
  let c0_i32 : BitVec 32 := 0#32
  let c1_i32 : BitVec 32 := 1#32
  let arg8 : BitVec 32 := Scf.iv c0_i32 c1_i32 k0_t1
  let c32_i32 : BitVec 32 := 32#32
  let v2 : BitVec 32 := Scalar.muli arg8 c32_i32
  let v3 : BitVec 32 := v2
  let v60 : Index := Scalar.indexCast v3
  let c1408 : Index := 1408#32
  ![0, v60.toNat, 1408]
def k0_off13 (k0_t1 : Fin k0_t1_loop.trips) : Fin 3 → Nat :=
  let c0_13 : Index := 0#32
  let c0_i32 : BitVec 32 := 0#32
  let c1_i32 : BitVec 32 := 1#32
  let arg8 : BitVec 32 := Scf.iv c0_i32 c1_i32 k0_t1
  let c32_i32 : BitVec 32 := 32#32
  let v2 : BitVec 32 := Scalar.muli arg8 c32_i32
  let v3 : BitVec 32 := v2
  let v65 : Index := Scalar.indexCast v3
  let c1536 : Index := 1536#32
  ![0, v65.toNat, 1536]
def k0_off14 (k0_t1 : Fin k0_t1_loop.trips) : Fin 3 → Nat :=
  let c0_14 : Index := 0#32
  let c0_i32 : BitVec 32 := 0#32
  let c1_i32 : BitVec 32 := 1#32
  let arg8 : BitVec 32 := Scf.iv c0_i32 c1_i32 k0_t1
  let c32_i32 : BitVec 32 := 32#32
  let v2 : BitVec 32 := Scalar.muli arg8 c32_i32
  let v3 : BitVec 32 := v2
  let v70 : Index := Scalar.indexCast v3
  let c1664 : Index := 1664#32
  ![0, v70.toNat, 1664]
def k0_off15 (k0_t1 : Fin k0_t1_loop.trips) : Fin 3 → Nat :=
  let c0_15 : Index := 0#32
  let c0_i32 : BitVec 32 := 0#32
  let c1_i32 : BitVec 32 := 1#32
  let arg8 : BitVec 32 := Scf.iv c0_i32 c1_i32 k0_t1
  let c32_i32 : BitVec 32 := 32#32
  let v2 : BitVec 32 := Scalar.muli arg8 c32_i32
  let v3 : BitVec 32 := v2
  let v75 : Index := Scalar.indexCast v3
  let c1792 : Index := 1792#32
  ![0, v75.toNat, 1792]
def k0_off16 (k0_t1 : Fin k0_t1_loop.trips) : Fin 3 → Nat :=
  let c0_16 : Index := 0#32
  let c0_i32 : BitVec 32 := 0#32
  let c1_i32 : BitVec 32 := 1#32
  let arg8 : BitVec 32 := Scf.iv c0_i32 c1_i32 k0_t1
  let c32_i32 : BitVec 32 := 32#32
  let v2 : BitVec 32 := Scalar.muli arg8 c32_i32
  let v3 : BitVec 32 := v2
  let v80 : Index := Scalar.indexCast v3
  let c1920 : Index := 1920#32
  ![0, v80.toNat, 1920]
def k0_off17 (k0_t1 : Fin k0_t1_loop.trips) : Fin 3 → Nat :=
  let c0_17 : Index := 0#32
  let c0_i32 : BitVec 32 := 0#32
  let c1_i32 : BitVec 32 := 1#32
  let arg8 : BitVec 32 := Scf.iv c0_i32 c1_i32 k0_t1
  let c32_i32 : BitVec 32 := 32#32
  let v2 : BitVec 32 := Scalar.muli arg8 c32_i32
  let v3 : BitVec 32 := v2
  let v85 : Index := Scalar.indexCast v3
  let c2048 : Index := 2048#32
  ![0, v85.toNat, 2048]
def k0_off18 (k0_t1 : Fin k0_t1_loop.trips) : Fin 3 → Nat :=
  let c0_18 : Index := 0#32
  let c0_i32 : BitVec 32 := 0#32
  let c1_i32 : BitVec 32 := 1#32
  let arg8 : BitVec 32 := Scf.iv c0_i32 c1_i32 k0_t1
  let c32_i32 : BitVec 32 := 32#32
  let v2 : BitVec 32 := Scalar.muli arg8 c32_i32
  let v3 : BitVec 32 := v2
  let v90 : Index := Scalar.indexCast v3
  let c2176 : Index := 2176#32
  ![0, v90.toNat, 2176]
def k0_off19 (k0_t1 : Fin k0_t1_loop.trips) : Fin 3 → Nat :=
  let c0_19 : Index := 0#32
  let c0_i32 : BitVec 32 := 0#32
  let c1_i32 : BitVec 32 := 1#32
  let arg8 : BitVec 32 := Scf.iv c0_i32 c1_i32 k0_t1
  let c32_i32 : BitVec 32 := 32#32
  let v2 : BitVec 32 := Scalar.muli arg8 c32_i32
  let v3 : BitVec 32 := v2
  let v95 : Index := Scalar.indexCast v3
  let c2304 : Index := 2304#32
  ![0, v95.toNat, 2304]
def k0_off20 (k0_t1 : Fin k0_t1_loop.trips) : Fin 3 → Nat :=
  let c0_20 : Index := 0#32
  let c0_i32 : BitVec 32 := 0#32
  let c1_i32 : BitVec 32 := 1#32
  let arg8 : BitVec 32 := Scf.iv c0_i32 c1_i32 k0_t1
  let c32_i32 : BitVec 32 := 32#32
  let v2 : BitVec 32 := Scalar.muli arg8 c32_i32
  let v3 : BitVec 32 := v2
  let v100 : Index := Scalar.indexCast v3
  let c2432 : Index := 2432#32
  ![0, v100.toNat, 2432]
def k0_off21 (k0_t1 : Fin k0_t1_loop.trips) : Fin 3 → Nat :=
  let c0_21 : Index := 0#32
  let c0_i32 : BitVec 32 := 0#32
  let c1_i32 : BitVec 32 := 1#32
  let arg8 : BitVec 32 := Scf.iv c0_i32 c1_i32 k0_t1
  let c32_i32 : BitVec 32 := 32#32
  let v2 : BitVec 32 := Scalar.muli arg8 c32_i32
  let v3 : BitVec 32 := v2
  let v105 : Index := Scalar.indexCast v3
  let c2560 : Index := 2560#32
  ![0, v105.toNat, 2560]
def k0_off22 (k0_t1 : Fin k0_t1_loop.trips) : Fin 3 → Nat :=
  let c0_22 : Index := 0#32
  let c0_i32 : BitVec 32 := 0#32
  let c1_i32 : BitVec 32 := 1#32
  let arg8 : BitVec 32 := Scf.iv c0_i32 c1_i32 k0_t1
  let c32_i32 : BitVec 32 := 32#32
  let v2 : BitVec 32 := Scalar.muli arg8 c32_i32
  let v3 : BitVec 32 := v2
  let v110 : Index := Scalar.indexCast v3
  let c2688 : Index := 2688#32
  ![0, v110.toNat, 2688]
def k0_off23 (k0_t1 : Fin k0_t1_loop.trips) : Fin 3 → Nat :=
  let c0_23 : Index := 0#32
  let c0_i32 : BitVec 32 := 0#32
  let c1_i32 : BitVec 32 := 1#32
  let arg8 : BitVec 32 := Scf.iv c0_i32 c1_i32 k0_t1
  let c32_i32 : BitVec 32 := 32#32
  let v2 : BitVec 32 := Scalar.muli arg8 c32_i32
  let v3 : BitVec 32 := v2
  let v115 : Index := Scalar.indexCast v3
  let c2816 : Index := 2816#32
  ![0, v115.toNat, 2816]
def k0_off24 (k0_t1 : Fin k0_t1_loop.trips) : Fin 3 → Nat :=
  let c0_24 : Index := 0#32
  let c0_i32 : BitVec 32 := 0#32
  let c1_i32 : BitVec 32 := 1#32
  let arg8 : BitVec 32 := Scf.iv c0_i32 c1_i32 k0_t1
  let c32_i32 : BitVec 32 := 32#32
  let v2 : BitVec 32 := Scalar.muli arg8 c32_i32
  let v3 : BitVec 32 := v2
  let v120 : Index := Scalar.indexCast v3
  let c2944 : Index := 2944#32
  ![0, v120.toNat, 2944]
def k0_off25 (k0_t1 : Fin k0_t1_loop.trips) : Fin 3 → Nat :=
  let c0_258 : Index := 0#32
  let c0_i32 : BitVec 32 := 0#32
  let c1_i32 : BitVec 32 := 1#32
  let arg8 : BitVec 32 := Scf.iv c0_i32 c1_i32 k0_t1
  let c32_i32 : BitVec 32 := 32#32
  let v2 : BitVec 32 := Scalar.muli arg8 c32_i32
  let v3 : BitVec 32 := v2
  let v757 : Index := Scalar.indexCast v3
  let c0_259 : Index := 0#32
  ![0, v757.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x3072 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x24 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ActReferenceIdeal.lean ====
abbrev S2x4096x3072 : Shape := ⟨3, ![2, 4096, 3072]⟩
abbrev S2x4096x24 : Shape := ⟨3, ![2, 4096, 24]⟩
abbrev S2x4096 : Shape := ⟨2, ![2, 4096]⟩
abbrev S2x4096x1 : Shape := ⟨3, ![2, 4096, 1]⟩
abbrev S2x4096x24x128 : Shape := ⟨4, ![2, 4096, 24, 128]⟩
abbrev S2x4096x24x1 : Shape := ⟨4, ![2, 4096, 24, 1]⟩

abbrev nBuf : Space → Nat
  | .hbm => 4
  | .vmem => 4
  | .smem => 0
  | _ => 0

abbrev bufTy : (tb : Table) → Fin (tcTables nBuf tb) → BufTy
  | .hbm, ⟨0, _⟩ => ⟨S2x4096x3072, .bf16⟩
  | .hbm, ⟨1, _⟩ => ⟨S2x4096x3072, .fp8e4m3⟩
  | .hbm, ⟨2, _⟩ => ⟨S2x4096x24, .f32⟩
  | .hbm, ⟨3, _⟩ => ⟨S2x4096x3072, .bf16⟩
  | .local _ .vmem, ⟨0, _⟩ => ⟨S2x4096x3072, .bf16⟩
  | .local _ .vmem, ⟨1, _⟩ => ⟨S2x4096x3072, .fp8e4m3⟩
  | .local _ .vmem, ⟨2, _⟩ => ⟨S2x4096x24, .f32⟩
  | .local _ .vmem, ⟨3, _⟩ => ⟨S2x4096x3072, .bf16⟩
  | _, _ => ⟨S2x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x4096x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4096x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4096x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4096x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Weight.lean ====
abbrev S2x3072 : Shape := ⟨2, ![2, 3072]⟩
abbrev S3072x9216 : Shape := ⟨2, ![3072, 9216]⟩
abbrev S24x72 : Shape := ⟨2, ![24, 72]⟩
abbrev S9216 : Shape := ⟨1, ![9216]⟩
abbrev S2x3072x1 : Shape := ⟨3, ![2, 3072, 1]⟩
abbrev S2x3072x128 : Shape := ⟨3, ![2, 3072, 128]⟩
abbrev S1x9216 : Shape := ⟨2, ![1, 9216]⟩
abbrev S2x3072x9216 : Shape := ⟨3, ![2, 3072, 9216]⟩
abbrev S2x24x128 : Shape := ⟨3, ![2, 24, 128]⟩
abbrev S2x1x9216 : Shape := ⟨3, ![2, 1, 9216]⟩
abbrev S3072x512 : Shape := ⟨2, ![3072, 512]⟩
abbrev S1x3072x128 : Shape := ⟨3, ![1, 3072, 128]⟩
abbrev S1x512 : Shape := ⟨2, ![1, 512]⟩
abbrev S1x3072x512 : Shape := ⟨3, ![1, 3072, 512]⟩
abbrev S1x24x128 : Shape := ⟨3, ![1, 24, 128]⟩
abbrev S1x1x512 : Shape := ⟨3, ![1, 1, 512]⟩
abbrev S24x128 : Shape := ⟨2, ![24, 128]⟩
abbrev S8x128 : Shape := ⟨2, ![8, 128]⟩
abbrev S1x128x128 : Shape := ⟨3, ![1, 128, 128]⟩
abbrev S128x128 : Shape := ⟨2, ![128, 128]⟩
abbrev S1x1 : Shape := ⟨2, ![1, 1]⟩
abbrev S16x8x128 : Shape := ⟨3, ![16, 8, 128]⟩
abbrev S128 : Shape := ⟨1, ![128]⟩
abbrev S1x128 : Shape := ⟨2, ![1, 128]⟩
abbrev S1 : Shape := ⟨1, ![1]⟩
abbrev S1x1x128 : Shape := ⟨3, ![1, 1, 128]⟩
abbrev S2x24x72 : Shape := ⟨3, ![2, 24, 72]⟩

abbrev nBuf : Space → Nat
  | .hbm => 15
  | .vmem => 16
  | .smem => 1
  | _ => 0

abbrev bufTy : (tb : Table) → Fin (tcTables nBuf tb) → BufTy
  | .hbm, ⟨0, _⟩ => ⟨S2x3072, .f32⟩
  | .hbm, ⟨1, _⟩ => ⟨S2x3072, .f32⟩
  | .hbm, ⟨2, _⟩ => ⟨S3072x9216, .fp8e4m3⟩
  | .hbm, ⟨3, _⟩ => ⟨S24x72, .f32⟩
  | .hbm, ⟨4, _⟩ => ⟨S9216, .f32⟩
  | .hbm, ⟨5, _⟩ => ⟨S2x3072x1, .f32⟩
  | .hbm, ⟨6, _⟩ => ⟨S2x3072x128, .f32⟩
  | .hbm, ⟨7, _⟩ => ⟨S2x3072x1, .f32⟩
  | .hbm, ⟨8, _⟩ => ⟨S2x3072x128, .f32⟩
  | .hbm, ⟨9, _⟩ => ⟨S1x9216, .f32⟩
  | .hbm, ⟨10, _⟩ => ⟨S2x3072x9216, .fp8e4m3⟩
  | .hbm, ⟨11, _⟩ => ⟨S2x24x128, .f32⟩
  | .hbm, ⟨12, _⟩ => ⟨S2x3072x9216, .bf16⟩
  | .hbm, ⟨13, _⟩ => ⟨S2x1x9216, .f32⟩
  | .hbm, ⟨14, _⟩ => ⟨S2x24x72, .f32⟩
  | .local _ .vmem, ⟨0, _⟩ => ⟨S3072x512, .fp8e4m3⟩
  | .local _ .vmem, ⟨1, _⟩ => ⟨S3072x512, .fp8e4m3⟩
  | .local _ .vmem, ⟨2, _⟩ => ⟨S1x3072x128, .f32⟩
  | .local _ .vmem, ⟨3, _⟩ => ⟨S1x3072x128, .f32⟩
  | .local _ .vmem, ⟨4, _⟩ => ⟨S1x3072x128, .f32⟩
  | .local _ .vmem, ⟨5, _⟩ => ⟨S1x3072x128, .f32⟩
  | .local _ .vmem, ⟨6, _⟩ => ⟨S1x512, .f32⟩
  | .local _ .vmem, ⟨7, _⟩ => ⟨S1x512, .f32⟩
  | .local _ .vmem, ⟨8, _⟩ => ⟨S1x3072x512, .fp8e4m3⟩
  | .local _ .vmem, ⟨9, _⟩ => ⟨S1x3072x512, .fp8e4m3⟩
  | .local _ .vmem, ⟨10, _⟩ => ⟨S1x24x128, .f32⟩
  | .local _ .vmem, ⟨11, _⟩ => ⟨S1x24x128, .f32⟩
  | .local _ .vmem, ⟨12, _⟩ => ⟨S1x3072x512, .bf16⟩
  | .local _ .vmem, ⟨13, _⟩ => ⟨S1x3072x512, .bf16⟩
  | .local _ .vmem, ⟨14, _⟩ => ⟨S1x1x512, .f32⟩
  | .local _ .vmem, ⟨15, _⟩ => ⟨S1x1x512, .f32⟩
  | .local _ .smem, ⟨0, _⟩ => ⟨S24x72, .f32⟩
  | _, _ => ⟨S2x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 18], ![false, false]⟩

@[reducible] def k0_t1_loop : Scf.Loop 32 :=
  let c0_i32_4 : BitVec 32 := 0#32
  let c24_i32 : BitVec 32 := 24#32
  let v9 : BitVec 32 := Scalar.addi c0_i32_4 c24_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg11 : BitVec 32 := Scf.iv c0_i32_4 c1_i32 k0_t1
  let c128_i32 : BitVec 32 := 128#32
  let v43 : BitVec 32 := Scalar.muli arg11 c128_i32
  v43
def k0_off1 (k0_t1 : Fin k0_t1_loop.trips) : Fin 3 → Nat :=
  let c0_26 : Index := 0#32
  let c0_i32_4 : BitVec 32 := 0#32
  let c1_i32 : BitVec 32 := 1#32
  let arg11 : BitVec 32 := Scf.iv c0_i32_4 c1_i32 k0_t1
  let c128_i32 : BitVec 32 := 128#32
  let v43 : BitVec 32 := Scalar.muli arg11 c128_i32
  let v44 : BitVec 32 := v43
  let v45 : Index := Scalar.indexCast v44
  let c0_27 : Index := 0#32
  ![0, v45.toNat, 0]
def k0_off2 (k0_t1 : Fin k0_t1_loop.trips) : Fin 2 → Nat :=
  let c0_i32_4 : BitVec 32 := 0#32
  let c1_i32 : BitVec 32 := 1#32
  let arg11 : BitVec 32 := Scf.iv c0_i32_4 c1_i32 k0_t1
  let c128_i32 : BitVec 32 := 128#32
  let v43 : BitVec 32 := Scalar.muli arg11 c128_i32
  let v44 : BitVec 32 := v43
  let v53 : Index := Scalar.indexCast v44
  let c0_31 : Index := 0#32
  ![v53.toNat, 0]
def k0_off3 (i : grid0.Coords) (k0_t1 : Fin k0_t1_loop.trips) (c0_i32_32 : BitVec 32) : Fin 2 → Nat :=
  let c0_i32_4 : BitVec 32 := 0#32
  let c1_i32 : BitVec 32 := 1#32
  let arg11 : BitVec 32 := Scf.iv c0_i32_4 c1_i32 k0_t1
  let v58 : Index := Scalar.indexCast arg11
  let arg1 : BitVec 32 := BitVec.ofNat 32 (i 1).val
  let c4_i32 : BitVec 32 := 4#32
  let v56 : BitVec 32 := Scalar.muli arg1 c4_i32
  let v57 : BitVec 32 := Scalar.addi v56 c0_i32_32
  let v59 : Index := Scalar.indexCast v57
  ![v58.toNat, v59.toNat]
def k0_off4 (k0_t1 : Fin k0_t1_loop.trips) : Fin 3 → Nat :=
  let c0_45 : Index := 0#32
  let c0_i32_4 : BitVec 32 := 0#32
  let c1_i32 : BitVec 32 := 1#32
  let arg11 : BitVec 32 := Scf.iv c0_i32_4 c1_i32 k0_t1
  let c128_i32 : BitVec 32 := 128#32
  let v43 : BitVec 32 := Scalar.muli arg11 c128_i32
  let v44 : BitVec 32 := v43
  let v98 : Index := Scalar.indexCast v44
  let c0_46 : Index := 0#32
  ![0, v98.toNat, 0]
def k0_off5 (k0_t1 : Fin k0_t1_loop.trips) : Fin 2 → Nat :=
  let c0_i32_4 : BitVec 32 := 0#32
  let c1_i32 : BitVec 32 := 1#32
  let arg11 : BitVec 32 := Scf.iv c0_i32_4 c1_i32 k0_t1
  let c128_i32 : BitVec 32 := 128#32
  let v43 : BitVec 32 := Scalar.muli arg11 c128_i32
  let v44 : BitVec 32 := v43
  let v125 : Index := Scalar.indexCast v44
  let c128_57 : Index := 128#32
  ![v125.toNat, 128]
def k0_off6 (k0_t1 : Fin k0_t1_loop.trips) : Fin 3 → Nat :=
  let c0_72 : Index := 0#32
  let c0_i32_4 : BitVec 32 := 0#32
  let c1_i32 : BitVec 32 := 1#32
  let arg11 : BitVec 32 := Scf.iv c0_i32_4 c1_i32 k0_t1
  let c128_i32 : BitVec 32 := 128#32
  let v43 : BitVec 32 := Scalar.muli arg11 c128_i32
  let v44 : BitVec 32 := v43
  let v170 : Index := Scalar.indexCast v44
  let c128_73 : Index := 128#32
  ![0, v170.toNat, 128]
def k0_off7 (k0_t1 : Fin k0_t1_loop.trips) : Fin 2 → Nat :=
  let c0_i32_4 : BitVec 32 := 0#32
  let c1_i32 : BitVec 32 := 1#32
  let arg11 : BitVec 32 := Scf.iv c0_i32_4 c1_i32 k0_t1
  let c128_i32 : BitVec 32 := 128#32
  let v43 : BitVec 32 := Scalar.muli arg11 c128_i32
  let v44 : BitVec 32 := v43
  let v197 : Index := Scalar.indexCast v44
  let c256_84 : Index := 256#32
  ![v197.toNat, 256]
def k0_off8 (k0_t1 : Fin k0_t1_loop.trips) : Fin 3 → Nat :=
  let c0_98 : Index := 0#32
  let c0_i32_4 : BitVec 32 := 0#32
  let c1_i32 : BitVec 32 := 1#32
  let arg11 : BitVec 32 := Scf.iv c0_i32_4 c1_i32 k0_t1
  let c128_i32 : BitVec 32 := 128#32
  let v43 : BitVec 32 := Scalar.muli arg11 c128_i32
  let v44 : BitVec 32 := v43
  let v242 : Index := Scalar.indexCast v44
  let c256_99 : Index := 256#32
  ![0, v242.toNat, 256]
def k0_off9 (k0_t1 : Fin k0_t1_loop.trips) : Fin 2 → Nat :=
  let c0_i32_4 : BitVec 32 := 0#32
  let c1_i32 : BitVec 32 := 1#32
  let arg11 : BitVec 32 := Scf.iv c0_i32_4 c1_i32 k0_t1
  let c128_i32 : BitVec 32 := 128#32
  let v43 : BitVec 32 := Scalar.muli arg11 c128_i32
  let v44 : BitVec 32 := v43
  let v269 : Index := Scalar.indexCast v44
  let c384_110 : Index := 384#32
  ![v269.toNat, 384]
def k0_off10 (k0_t1 : Fin k0_t1_loop.trips) : Fin 3 → Nat :=
  let c0_124 : Index := 0#32
  let c0_i32_4 : BitVec 32 := 0#32
  let c1_i32 : BitVec 32 := 1#32
  let arg11 : BitVec 32 := Scf.iv c0_i32_4 c1_i32 k0_t1
  let c128_i32 : BitVec 32 := 128#32
  let v43 : BitVec 32 := Scalar.muli arg11 c128_i32
  let v44 : BitVec 32 := v43
  let v314 : Index := Scalar.indexCast v44
  let c384_125 : Index := 384#32
  ![0, v314.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S3072x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .smem S24x72 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x3072x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3072x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x3072x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x24x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x3072x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== WeightReferenceIdeal.lean ====
abbrev S2x3072 : Shape := ⟨2, ![2, 3072]⟩
abbrev S3072x9216 : Shape := ⟨2, ![3072, 9216]⟩
abbrev S24x72 : Shape := ⟨2, ![24, 72]⟩
abbrev S9216 : Shape := ⟨1, ![9216]⟩
abbrev S2x3072x9216 : Shape := ⟨3, ![2, 3072, 9216]⟩
abbrev S2x24x72 : Shape := ⟨3, ![2, 24, 72]⟩
abbrev S2x1x9216 : Shape := ⟨3, ![2, 1, 9216]⟩
abbrev S24x128x72x128 : Shape := ⟨4, ![24, 128, 72, 128]⟩
abbrev S24x1x72x1 : Shape := ⟨4, ![24, 1, 72, 1]⟩
abbrev S2x24x128 : Shape := ⟨3, ![2, 24, 128]⟩
abbrev S2x24x128x1x1 : Shape := ⟨5, ![2, 24, 128, 1, 1]⟩
abbrev S1x24x128x72x128 : Shape := ⟨5, ![1, 24, 128, 72, 128]⟩
abbrev S2x24x128x72x128 : Shape := ⟨5, ![2, 24, 128, 72, 128]⟩
abbrev S2x24x1x72x1 : Shape := ⟨5, ![2, 24, 1, 72, 1]⟩
abbrev S2x9216 : Shape := ⟨2, ![2, 9216]⟩
abbrev S1x9216 : Shape := ⟨2, ![1, 9216]⟩

abbrev nBuf : Space → Nat
  | .hbm => 9
  | .vmem => 9
  | .smem => 0
  | _ => 0

abbrev bufTy : (tb : Table) → Fin (tcTables nBuf tb) → BufTy
  | .hbm, ⟨0, _⟩ => ⟨S2x3072, .f32⟩
  | .hbm, ⟨1, _⟩ => ⟨S2x3072, .f32⟩
  | .hbm, ⟨2, _⟩ => ⟨S3072x9216, .fp8e4m3⟩
  | .hbm, ⟨3, _⟩ => ⟨S24x72, .f32⟩
  | .hbm, ⟨4, _⟩ => ⟨S9216, .f32⟩
  | .hbm, ⟨5, _⟩ => ⟨S2x3072x9216, .fp8e4m3⟩
  | .hbm, ⟨6, _⟩ => ⟨S2x24x72, .f32⟩
  | .hbm, ⟨7, _⟩ => ⟨S2x3072x9216, .bf16⟩
  | .hbm, ⟨8, _⟩ => ⟨S2x1x9216, .f32⟩
  | .local _ .vmem, ⟨0, _⟩ => ⟨S2x3072, .f32⟩
  | .local _ .vmem, ⟨1, _⟩ => ⟨S2x3072, .f32⟩
  | .local _ .vmem, ⟨2, _⟩ => ⟨S3072x9216, .fp8e4m3⟩
  | .local _ .vmem, ⟨3, _⟩ => ⟨S24x72, .f32⟩
  | .local _ .vmem, ⟨4, _⟩ => ⟨S9216, .f32⟩
  | .local _ .vmem, ⟨5, _⟩ => ⟨S2x3072x9216, .fp8e4m3⟩
  | .local _ .vmem, ⟨6, _⟩ => ⟨S2x24x72, .f32⟩
  | .local _ .vmem, ⟨7, _⟩ => ⟨S2x3072x9216, .bf16⟩
  | .local _ .vmem, ⟨8, _⟩ => ⟨S2x1x9216, .f32⟩
  | _, _ => ⟨S2x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x9216 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x72 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x3072x9216 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x24x72 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x3072x9216 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1x9216 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Kernel.lean ====
abbrev S2x4096x3072 : Shape := ⟨3, ![2, 4096, 3072]⟩
abbrev S2x3072x9216 : Shape := ⟨3, ![2, 3072, 9216]⟩
abbrev S2x1x9216 : Shape := ⟨3, ![2, 1, 9216]⟩
abbrev S2x4096x9216 : Shape := ⟨3, ![2, 4096, 9216]⟩
abbrev S1x1024x3072 : Shape := ⟨3, ![1, 1024, 3072]⟩
abbrev S1x3072x1024 : Shape := ⟨3, ![1, 3072, 1024]⟩
abbrev S1x1x1024 : Shape := ⟨3, ![1, 1, 1024]⟩
abbrev S1x1024x1024 : Shape := ⟨3, ![1, 1024, 1024]⟩
abbrev S1024x3072 : Shape := ⟨2, ![1024, 3072]⟩
abbrev S3072x1024 : Shape := ⟨2, ![3072, 1024]⟩
abbrev S1024x1024 : Shape := ⟨2, ![1024, 1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2x4096x3072, .bf16⟩
  | .hbm, ⟨1, _⟩ => ⟨S2x3072x9216, .bf16⟩
  | .hbm, ⟨2, _⟩ => ⟨S2x1x9216, .f32⟩
  | .hbm, ⟨3, _⟩ => ⟨S2x4096x9216, .bf16⟩
  | .local _ .vmem, ⟨0, _⟩ => ⟨S1x1024x3072, .bf16⟩
  | .local _ .vmem, ⟨1, _⟩ => ⟨S1x1024x3072, .bf16⟩
  | .local _ .vmem, ⟨2, _⟩ => ⟨S1x3072x1024, .bf16⟩
  | .local _ .vmem, ⟨3, _⟩ => ⟨S1x3072x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .bf16⟩
  | .local _ .vmem, ⟨7, _⟩ => ⟨S1x1024x1024, .bf16⟩
  | _, _ => ⟨S2x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 9], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3072x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x4096x3072 : Shape := ⟨3, ![2, 4096, 3072]⟩
abbrev S2x3072x9216 : Shape := ⟨3, ![2, 3072, 9216]⟩
abbrev S2x1x9216 : Shape := ⟨3, ![2, 1, 9216]⟩
abbrev S2x4096x9216 : Shape := ⟨3, ![2, 4096, 9216]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x3072, .bf16⟩
  | .hbm, ⟨1, _⟩ => ⟨S2x3072x9216, .bf16⟩
  | .hbm, ⟨2, _⟩ => ⟨S2x1x9216, .f32⟩
  | .hbm, ⟨3, _⟩ => ⟨S2x4096x9216, .f32⟩
  | .hbm, ⟨4, _⟩ => ⟨S2x4096x9216, .f32⟩
  | .hbm, ⟨5, _⟩ => ⟨S2x4096x9216, .f32⟩
  | .hbm, ⟨6, _⟩ => ⟨S2x4096x9216, .bf16⟩
  | _, _ => ⟨S2x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.ActRunBits.lean ====
/-
The whole-body run of the activation kernel as printed, with the pieces its loop leaves named: the stored values of a trip do not depend on what
the buffers held before (`pb_indep`), so the pieces are those of a loop entered over any contents.
-/
module

public import proofs.«01_k».proof.Proof.Gen.Act.Frame.Runs

@[expose] public section

-- membership in a rectangle of production extents (`View.cover_of_tiled`): the elaborator's structural look
-- recurses once per coordinate of the long axes
set_option maxRecDepth 16384

noncomputable section

namespace Cert.Act.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (𝒱 : Variants) (c : Dev nD) (bd : Option 𝒱.V) (i : grid0.Coords) (arg2 : Memref sig .tc .vmem S1x256x3072 .bf16) (harg2 : arg2.IsWhole)
  (arg3 : Memref sig .tc .vmem S1x256x3072 .fp8e4m3) (harg3 : arg3.IsWhole) (arg4 : Memref sig .tc .vmem S1x256x24 .f32) (harg4 : arg4.IsWhole)
  (arg5 : Memref sig .tc .vmem S1x256x3072 .bf16) (harg5 : arg5.IsWhole) (arg6 : Memref sig .tc .vmem S32x3072 .f32) (harg6 : arg6.IsWhole)
  (arg7 : Memref sig .tc .vmem S32x3072 .f32) (harg7 : arg7.IsWhole) (v0 : IVec S32x128 32) (X : BufTy.Contents (Elt F) arg2.view.ty)

/-- A trip's pieces are the same whatever the written buffers held before. -/
theorem trip_indep (k : Fin k0_t1_loop.trips) (f3 g3 : BufTy.Contents (Elt F) arg3.view.ty) (f4 g4 : BufTy.Contents (Elt F) arg4.view.ty)
    (f5 g5 : BufTy.Contents (Elt F) arg5.view.ty) (f6 g6 : BufTy.Contents (Elt F) arg6.view.ty) (f7 g7 : BufTy.Contents (Elt F) arg7.view.ty) :
    tripL_k0_t1 𝒱 c bd i arg2 harg2 arg3 harg3 arg4 harg4 arg5 harg5 arg6 harg6 arg7 harg7 v0 X k f3 f4 f5 f6 f7
      = tripL_k0_t1 𝒱 c bd i arg2 harg2 arg3 harg3 arg4 harg4 arg5 harg5 arg6 harg6 arg7 harg7 v0 X k g3 g4 g5 g6 g7 := by
  unfold tripL_k0_t1 trip_k0_t1
  rfl

/-- So are the pieces of the trips before `n`. -/
theorem pb_indep (f3 g3 : BufTy.Contents (Elt F) arg3.view.ty) (f4 g4 : BufTy.Contents (Elt F) arg4.view.ty)
    (f5 g5 : BufTy.Contents (Elt F) arg5.view.ty) (f6 g6 : BufTy.Contents (Elt F) arg6.view.ty) (f7 g7 : BufTy.Contents (Elt F) arg7.view.ty) (n : ℕ)
    (hn : n ≤ k0_t1_loop.trips) :
    pb_k0_t1 𝒱 c bd i arg2 harg2 arg3 harg3 arg4 harg4 arg5 harg5 arg6 harg6 arg7 harg7 v0 X f3 f4 f5 f6 f7 n
      = pb_k0_t1 𝒱 c bd i arg2 harg2 arg3 harg3 arg4 harg4 arg5 harg5 arg6 harg6 arg7 harg7 v0 X g3 g4 g5 g6 g7 n := by
  induction n with
  | zero => rfl
  | succ n ih =>
    rw [pb_k0_t1_succ 𝒱 c bd i arg2 harg2 arg3 harg3 arg4 harg4 arg5 harg5 arg6 harg6 arg7 harg7 v0 X f3 f4 f5 f6 f7 ⟨n, hn⟩,
      pb_k0_t1_succ 𝒱 c bd i arg2 harg2 arg3 harg3 arg4 harg4 arg5 harg5 arg6 harg6 arg7 harg7 v0 X g3 g4 g5 g6 g7 ⟨n, hn⟩]
    rw [ih (by omega)]
    generalize pb_k0_t1 𝒱 c bd i arg2 harg2 arg3 harg3 arg4 harg4 arg5 harg5 arg6 harg6 arg7 harg7 v0 X g3 g4 g5 g6 g7 n = P
    exact congrArg (fun T : List _ × List _ × List _ × List _ × List _ =>
        (T.1 ++ P.1, T.2.1 ++ P.2.1, T.2.2.1 ++ P.2.2.1, T.2.2.2.1 ++ P.2.2.2.1, T.2.2.2.2 ++ P.2.2.2.2))
      (trip_indep 𝒱 c bd i arg2 harg2 arg3 harg3 arg4 harg4 arg5 harg5 arg6 harg6 arg7 harg7 v0 X ⟨n, hn⟩ _ _ _ _ _ _ _ _ _ _)

/-- The pieces of the whole loop. -/
def loopL : List (View.Piece (Elt F) S1x256x3072 .fp8e4m3) × List (View.Piece (Elt F) S1x256x24 .f32) × List (View.Piece (Elt F) S1x256x3072 .bf16)
    × List (View.Piece (Elt F) S32x3072 .f32) × List (View.Piece (Elt F) S32x3072 .f32) :=
  pb_k0_t1 𝒱 c bd i arg2 harg2 arg3 harg3 arg4 harg4 arg5 harg5 arg6 harg6 arg7 harg7 v0 X arg3.view.junk arg4.view.junk arg5.view.junk arg6.view.junk
    arg7.view.junk k0_t1_loop.trips

theorem pb_eq_loopL (f3 : BufTy.Contents (Elt F) arg3.view.ty) (f4 : BufTy.Contents (Elt F) arg4.view.ty)
    (f5 : BufTy.Contents (Elt F) arg5.view.ty) (f6 : BufTy.Contents (Elt F) arg6.view.ty) (f7 : BufTy.Contents (Elt F) arg7.view.ty) :
    pb_k0_t1 𝒱 c bd i arg2 harg2 arg3 harg3 arg4 harg4 arg5 harg5 arg6 harg6 arg7 harg7 v0 X f3 f4 f5 f6 f7
        (Scf.trips k0_t1_loop.lb k0_t1_loop.ub k0_t1_loop.st)
      = loopL 𝒱 c bd i arg2 harg2 arg3 harg3 arg4 harg4 arg5 harg5 arg6 harg6 arg7 harg7 v0 X :=
  pb_indep 𝒱 c bd i arg2 harg2 arg3 harg3 arg4 harg4 arg5 harg5 arg6 harg6 arg7 harg7 v0 X _ _ _ _ _ _ _ _ _ _ _ le_rfl

end

set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x256x3072 .bf16) (harg2 : arg2.IsWhole) (arg3 : Memref sig .tc .vmem S1x256x3072 .fp8e4m3) (harg3 : arg3.IsWhole) (arg4 : Memref sig .tc .vmem S1x256x24 .f32) (harg4 : arg4.IsWhole) (arg5 : Memref sig .tc .vmem S1x256x3072 .bf16) (harg5 : arg5.IsWhole) (arg6 : Memref sig .tc .vmem S32x3072 .f32) (harg6 : arg6.IsWhole) (arg7 : Memref sig .tc .vmem S32x3072 .f32) (harg7 : arg7.IsWhole)
    (x0 : Vec F S1x256x3072 .bf16) :
    Σ' (L1 : List (View.Piece (Elt F) S1x256x3072 .fp8e4m3)), Σ' (L2 : List (View.Piece (Elt F) S1x256x24 .f32)), { L3 : List (View.Piece (Elt F) S1x256x3072 .bf16) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ d, owns (c : Thread nD τ) arg6 fullShare d) ∗ (∃ d, owns (c : Thread nD τ) arg7 fullShare d)) -∗ K ⟨⟩))
          ⊢ wp frame (wpE (defs₀ (F := F)) Variants.none c none) E (cc0_act i arg2 harg2 arg3 harg3 arg4 harg4 arg5 harg5 arg6 harg6 arg7 harg7) K } := by
  let L := loopL (F := F) Variants.none c none i arg2 harg2 arg3 harg3 arg4 harg4 arg5 harg5 arg6 harg6 arg7 harg7 (iota .tc S32x128 32 [1] iota_S32x128_d1_w32)
    (harg2.unread x0)
  refine ⟨L.1, L.2.1, L.2.2.1, fun E K => ?run⟩
  case run =>
    simp only [cc0_act_eq_skeleton]; unfold cc0_act_skel
    unfold owns
    iintro ⟨⟨%f0, %hf0, H0⟩, ⟨%d1, %f1, -, H1⟩, ⟨%d2, %f2, -, H2⟩, ⟨%d3, %f3, -, H3⟩, ⟨%ds0, %fs0, -, HS0⟩, ⟨%ds1, %fs1, -, HS1⟩, Hk⟩
    obtain rfl := harg2.eq_unread hf0
    sl_exec
    sl_step
    rw [pb_eq_loopL]
    iapply Hk
    isplitl [H0]
    · iexists _; isplitr; · ipureintro; exact harg2.read_unread _
      iexact H0
    isplitl [H1]; · iexists _; iexact H1
    isplitl [H2]; · iexists _; iexact H2
    isplitl [H3]; · iexists _; iexact H3
    isplitl [HS0]
    · iexists _, _; isplitr; swap; · iexact HS0
      ipureintro; rfl
    iexists _, _; isplitr; swap; · iexact HS1
    ipureintro; rfl

end Cert.Act.Gen

end
-- ==== Proof.ActFrameBits.lean ====
/-
The frame of the activation kernel at the program as printed: the proof data over the run of `ActRun`, the launch, and what the call leaves.
-/
module

public import proofs.«01_k».proof.Proof.ActRunBits
public import Idealize.ShloMosaic.Lib.Claim

@[expose] public section

-- membership in a rectangle of production extents (`View.cover_of_tiled`): the elaborator's structural look
-- recurses once per coordinate of the long axes
set_option maxRecDepth 16384

noncomputable section

namespace Cert.Act.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 1 tile its block (192 stores of `S1x32x128`, checked by the kernel's evaluation: Lib/Ring.lean `Piece.tiledL`, linear in the pieces, through a loop's `@[irreducible]` trip theorem too), so they cover it. -/
theorem cover0_A_1 (c : Dev nD) (i : grid0.Coords) (arg2 : Memref sig .tc .vmem S1x256x3072 .bf16) (harg2 : arg2.IsWhole) (arg3 : Memref sig .tc .vmem S1x256x3072 .fp8e4m3) (harg3 : arg3.IsWhole) (arg4 : Memref sig .tc .vmem S1x256x24 .f32) (harg4 : arg4.IsWhole) (arg5 : Memref sig .tc .vmem S1x256x3072 .bf16) (harg5 : arg5.IsWhole) (arg6 : Memref sig .tc .vmem S32x3072 .f32) (harg6 : arg6.IsWhole) (arg7 : Memref sig .tc .vmem S32x3072 .f32) (harg7 : arg7.IsWhole)
    (x0 : Vec F S1x256x3072 .bf16) (y : S1x256x3072.Idx) :
    ∃ pc ∈ (kernelRun0_A c i arg2 harg2 arg3 harg3 arg4 harg4 arg5 harg5 arg6 harg6 arg7 harg7 x0).1, y ∈ pc.1.set :=
  View.cover_of_tiledL (kernelRun0_A c i arg2 harg2 arg3 harg3 arg4 harg4 arg5 harg5 arg6 harg6 arg7 harg7 x0).1 S1x32x128.size (by sl_kernel_rfl) y

/-- What the run leaves in output 1's staging buffer: its pieces read back over junk. -/
def out0_A_1 (c : Dev nD) (i : grid0.Coords) (arg2 : Memref sig .tc .vmem S1x256x3072 .bf16) (harg2 : arg2.IsWhole) (arg3 : Memref sig .tc .vmem S1x256x3072 .fp8e4m3) (harg3 : arg3.IsWhole) (arg4 : Memref sig .tc .vmem S1x256x24 .f32) (harg4 : arg4.IsWhole) (arg5 : Memref sig .tc .vmem S1x256x3072 .bf16) (harg5 : arg5.IsWhole) (arg6 : Memref sig .tc .vmem S32x3072 .f32) (harg6 : arg6.IsWhole) (arg7 : Memref sig .tc .vmem S32x3072 .f32) (harg7 : arg7.IsWhole)
    (x0 : Vec F S1x256x3072 .bf16) : Vec F S1x256x3072 .fp8e4m3 :=
  VO0_1.read (Elt F) (VO0_1.writes (Elt F) VO0_1.junk (kernelRun0_A c i arg2 harg2 arg3 harg3 arg4 harg4 arg5 harg5 arg6 harg6 arg7 harg7 x0).1)

/-- The run's pieces for output 2 tile its block (8 stores of `S1x32x24`, checked by the kernel's evaluation: Lib/Ring.lean `Piece.tiledL`, linear in the pieces, through a loop's `@[irreducible]` trip theorem too), so they cover it. -/
theorem cover0_A_2 (c : Dev nD) (i : grid0.Coords) (arg2 : Memref sig .tc .vmem S1x256x3072 .bf16) (harg2 : arg2.IsWhole) (arg3 : Memref sig .tc .vmem S1x256x3072 .fp8e4m3) (harg3 : arg3.IsWhole) (arg4 : Memref sig .tc .vmem S1x256x24 .f32) (harg4 : arg4.IsWhole) (arg5 : Memref sig .tc .vmem S1x256x3072 .bf16) (harg5 : arg5.IsWhole) (arg6 : Memref sig .tc .vmem S32x3072 .f32) (harg6 : arg6.IsWhole) (arg7 : Memref sig .tc .vmem S32x3072 .f32) (harg7 : arg7.IsWhole)
    (x0 : Vec F S1x256x3072 .bf16) (y : S1x256x24.Idx) :
    ∃ pc ∈ (kernelRun0_A c i arg2 harg2 arg3 harg3 arg4 harg4 arg5 harg5 arg6 harg6 arg7 harg7 x0).2.1, y ∈ pc.1.set :=
  View.cover_of_tiledL (kernelRun0_A c i arg2 harg2 arg3 harg3 arg4 harg4 arg5 harg5 arg6 harg6 arg7 harg7 x0).2.1 S1x32x24.size (by sl_kernel_rfl) y

/-- What the run leaves in output 2's staging buffer: its pieces read back over junk. -/
def out0_A_2 (c : Dev nD) (i : grid0.Coords) (arg2 : Memref sig .tc .vmem S1x256x3072 .bf16) (harg2 : arg2.IsWhole) (arg3 : Memref sig .tc .vmem S1x256x3072 .fp8e4m3) (harg3 : arg3.IsWhole) (arg4 : Memref sig .tc .vmem S1x256x24 .f32) (harg4 : arg4.IsWhole) (arg5 : Memref sig .tc .vmem S1x256x3072 .bf16) (harg5 : arg5.IsWhole) (arg6 : Memref sig .tc .vmem S32x3072 .f32) (harg6 : arg6.IsWhole) (arg7 : Memref sig .tc .vmem S32x3072 .f32) (harg7 : arg7.IsWhole)
    (x0 : Vec F S1x256x3072 .bf16) : Vec F S1x256x24 .f32 :=
  VO0_2.read (Elt F) (VO0_2.writes (Elt F) VO0_2.junk (kernelRun0_A c i arg2 harg2 arg3 harg3 arg4 harg4 arg5 harg5 arg6 harg6 arg7 harg7 x0).2.1)

/-- The run's pieces for output 3 tile its block (192 stores of `S1x32x128`, checked by the kernel's evaluation: Lib/Ring.lean `Piece.tiledL`, linear in the pieces, through a loop's `@[irreducible]` trip theorem too), so they cover it. -/
theorem cover0_A_3 (c : Dev nD) (i : grid0.Coords) (arg2 : Memref sig .tc .vmem S1x256x3072 .bf16) (harg2 : arg2.IsWhole) (arg3 : Memref sig .tc .vmem S1x256x3072 .fp8e4m3) (harg3 : arg3.IsWhole) (arg4 : Memref sig .tc .vmem S1x256x24 .f32) (harg4 : arg4.IsWhole) (arg5 : Memref sig .tc .vmem S1x256x3072 .bf16) (harg5 : arg5.IsWhole) (arg6 : Memref sig .tc .vmem S32x3072 .f32) (harg6 : arg6.IsWhole) (arg7 : Memref sig .tc .vmem S32x3072 .f32) (harg7 : arg7.IsWhole)
    (x0 : Vec F S1x256x3072 .bf16) (y : S1x256x3072.Idx) :
    ∃ pc ∈ (kernelRun0_A c i arg2 harg2 arg3 harg3 arg4 harg4 arg5 harg5 arg6 harg6 arg7 harg7 x0).2.2.1, y ∈ pc.1.set :=
  View.cover_of_tiledL (kernelRun0_A c i arg2 harg2 arg3 harg3 arg4 harg4 arg5 harg5 arg6 harg6 arg7 harg7 x0).2.2.1 S1x32x128.size (by sl_kernel_rfl) y

/-- What the run leaves in output 3's staging buffer: its pieces read back over junk. -/
def out0_A_3 (c : Dev nD) (i : grid0.Coords) (arg2 : Memref sig .tc .vmem S1x256x3072 .bf16) (harg2 : arg2.IsWhole) (arg3 : Memref sig .tc .vmem S1x256x3072 .fp8e4m3) (harg3 : arg3.IsWhole) (arg4 : Memref sig .tc .vmem S1x256x24 .f32) (harg4 : arg4.IsWhole) (arg5 : Memref sig .tc .vmem S1x256x3072 .bf16) (harg5 : arg5.IsWhole) (arg6 : Memref sig .tc .vmem S32x3072 .f32) (harg6 : arg6.IsWhole) (arg7 : Memref sig .tc .vmem S32x3072 .f32) (harg7 : arg7.IsWhole)
    (x0 : Vec F S1x256x3072 .bf16) : Vec F S1x256x3072 .bf16 :=
  VO0_3.read (Elt F) (VO0_3.writes (Elt F) VO0_3.junk (kernelRun0_A c i arg2 harg2 arg3 harg3 arg4 harg4 arg5 harg5 arg6 harg6 arg7 harg7 x0).2.2.1)

/-! ## What the outputs hold after each point -/

/-- What the outputs' staging buffers hold after the body at point `t` (as a tuple, in window order): the run's contents at
    the point's memrefs and input blocks. -/
def outsAt0 (c : Dev nD) (t : Fin cfg0.N) : Vec F S1x256x3072 .fp8e4m3 × Vec F S1x256x24 .f32 × Vec F S1x256x3072 .bf16 :=
  (out0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t), out0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t), out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t).1
    | ⟨2, _⟩ => (outsAt0 m c t).2.1
    | ⟨3, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = (outsAt0 m c t).1 := by dsimp only [dats]
theorem after0_2 (c : Dev nD) (t : Fin cfg0.N) : (dats m 0 c).after 2 t = (outsAt0 m c t).2.1 := by dsimp only [dats]
theorem after0_3 (c : Dev nD) (t : Fin cfg0.N) : (dats m 0 c).after 3 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outsAt0
  unfold out0_A_1 out0_A_2 out0_A_3; (try dsimp only)
  iintro ⟨⟨⟨HS0, HS1⟩, Hg⟩, Ho, ⟨%d0, H0⟩, ⟨%d1, H1⟩, ⟨%d2, H2⟩, ⟨%d3, H3⟩⟩
  iapply ((kernelRun0_A c (grid0.coords t) _ _ _ _ _ _ _ _ _ _ _ _ (iblk m c 0 t)).2.2.2 Set.univ _)
  isplitl [H0]; · iexact H0
  isplitl [H1]; · iexists _; iexact H1
  isplitl [H2]; · iexists _; iexact H2
  isplitl [H3]; · iexists _; iexact H3
  isplitl [HS0]; · iexact HS0
  isplitl [HS1]; · iexact HS1
  iintro ⟨H0, ⟨%e1, H1⟩, ⟨%e2, H2⟩, ⟨%e3, H3⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]
  · unfold owns; iexists _; isplitr
    swap; · iexact H1
    ipureintro; exact View.read_writes_of_cover _ _ _ _ _ (cover0_A_1 c _ _ _ _ _ _ _ _ _ _ _ _ _ _)
  isplitl [H2]
  · unfold owns; iexists _; isplitr
    swap; · iexact H2
    ipureintro; exact View.read_writes_of_cover _ _ _ _ _ (cover0_A_2 c _ _ _ _ _ _ _ _ _ _ _ _ _ _)
  unfold owns; iexists _; isplitr
  swap; · iexact H3
  ipureintro; exact View.read_writes_of_cover _ _ _ _ _ (cover0_A_3 c _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- THE FRAME: `Cert.quiescent_Act`'s statement (Defs.lean) at any `F` — Proof.lean cites it at `Bits`:
    `theorem Cert.Proof.claim : Cert.Claim := ⟨Cert.Act.Gen.facts, fun m ρ _ => Cert.Act.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.Act.Gen

end
-- ==== Proof.ActRun.lean ====
/-
The whole-body run of the activation kernel, with the pieces its loop leaves named: the stored values of a trip do not depend on what
the buffers held before (`pb_indep`), so the pieces are those of a loop entered over any contents.
-/
module

public import proofs.«01_k».proof.Proof.Gen.ActIdeal.Frame.Runs

@[expose] public section

-- membership in a rectangle of production extents (`View.cover_of_tiled`): the elaborator's structural look
-- recurses once per coordinate of the long axes
set_option maxRecDepth 16384

noncomputable section

namespace Cert.ActIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (𝒱 : Variants) (c : Dev nD) (bd : Option 𝒱.V) (i : grid0.Coords) (arg2 : Memref sig .tc .vmem S1x256x3072 .bf16) (harg2 : arg2.IsWhole)
  (arg3 : Memref sig .tc .vmem S1x256x3072 .fp8e4m3) (harg3 : arg3.IsWhole) (arg4 : Memref sig .tc .vmem S1x256x24 .f32) (harg4 : arg4.IsWhole)
  (arg5 : Memref sig .tc .vmem S1x256x3072 .bf16) (harg5 : arg5.IsWhole) (arg6 : Memref sig .tc .vmem S32x3072 .f32) (harg6 : arg6.IsWhole)
  (arg7 : Memref sig .tc .vmem S32x3072 .f32) (harg7 : arg7.IsWhole) (v0 : IVec S32x128 32) (X : BufTy.Contents (Elt F) arg2.view.ty)

/-- A trip's pieces are the same whatever the written buffers held before. -/
theorem trip_indep (k : Fin k0_t1_loop.trips) (f3 g3 : BufTy.Contents (Elt F) arg3.view.ty) (f4 g4 : BufTy.Contents (Elt F) arg4.view.ty)
    (f5 g5 : BufTy.Contents (Elt F) arg5.view.ty) (f6 g6 : BufTy.Contents (Elt F) arg6.view.ty) (f7 g7 : BufTy.Contents (Elt F) arg7.view.ty) :
    tripL_k0_t1 𝒱 c bd i arg2 harg2 arg3 harg3 arg4 harg4 arg5 harg5 arg6 harg6 arg7 harg7 v0 X k f3 f4 f5 f6 f7
      = tripL_k0_t1 𝒱 c bd i arg2 harg2 arg3 harg3 arg4 harg4 arg5 harg5 arg6 harg6 arg7 harg7 v0 X k g3 g4 g5 g6 g7 := by
  unfold tripL_k0_t1 trip_k0_t1
  rfl

/-- So are the pieces of the trips before `n`. -/
theorem pb_indep (f3 g3 : BufTy.Contents (Elt F) arg3.view.ty) (f4 g4 : BufTy.Contents (Elt F) arg4.view.ty)
    (f5 g5 : BufTy.Contents (Elt F) arg5.view.ty) (f6 g6 : BufTy.Contents (Elt F) arg6.view.ty) (f7 g7 : BufTy.Contents (Elt F) arg7.view.ty) (n : ℕ)
    (hn : n ≤ k0_t1_loop.trips) :
    pb_k0_t1 𝒱 c bd i arg2 harg2 arg3 harg3 arg4 harg4 arg5 harg5 arg6 harg6 arg7 harg7 v0 X f3 f4 f5 f6 f7 n
      = pb_k0_t1 𝒱 c bd i arg2 harg2 arg3 harg3 arg4 harg4 arg5 harg5 arg6 harg6 arg7 harg7 v0 X g3 g4 g5 g6 g7 n := by
  induction n with
  | zero => rfl
  | succ n ih =>
    rw [pb_k0_t1_succ 𝒱 c bd i arg2 harg2 arg3 harg3 arg4 harg4 arg5 harg5 arg6 harg6 arg7 harg7 v0 X f3 f4 f5 f6 f7 ⟨n, hn⟩,
      pb_k0_t1_succ 𝒱 c bd i arg2 harg2 arg3 harg3 arg4 harg4 arg5 harg5 arg6 harg6 arg7 harg7 v0 X g3 g4 g5 g6 g7 ⟨n, hn⟩]
    rw [ih (by omega)]
    generalize pb_k0_t1 𝒱 c bd i arg2 harg2 arg3 harg3 arg4 harg4 arg5 harg5 arg6 harg6 arg7 harg7 v0 X g3 g4 g5 g6 g7 n = P
    exact congrArg (fun T : List _ × List _ × List _ × List _ × List _ =>
        (T.1 ++ P.1, T.2.1 ++ P.2.1, T.2.2.1 ++ P.2.2.1, T.2.2.2.1 ++ P.2.2.2.1, T.2.2.2.2 ++ P.2.2.2.2))
      (trip_indep 𝒱 c bd i arg2 harg2 arg3 harg3 arg4 harg4 arg5 harg5 arg6 harg6 arg7 harg7 v0 X ⟨n, hn⟩ _ _ _ _ _ _ _ _ _ _)

/-- The pieces of the whole loop. -/
def loopL : List (View.Piece (Elt F) S1x256x3072 .fp8e4m3) × List (View.Piece (Elt F) S1x256x24 .f32) × List (View.Piece (Elt F) S1x256x3072 .bf16)
    × List (View.Piece (Elt F) S32x3072 .f32) × List (View.Piece (Elt F) S32x3072 .f32) :=
  pb_k0_t1 𝒱 c bd i arg2 harg2 arg3 harg3 arg4 harg4 arg5 harg5 arg6 harg6 arg7 harg7 v0 X arg3.view.junk arg4.view.junk arg5.view.junk arg6.view.junk
    arg7.view.junk k0_t1_loop.trips

theorem pb_eq_loopL (f3 : BufTy.Contents (Elt F) arg3.view.ty) (f4 : BufTy.Contents (Elt F) arg4.view.ty)
    (f5 : BufTy.Contents (Elt F) arg5.view.ty) (f6 : BufTy.Contents (Elt F) arg6.view.ty) (f7 : BufTy.Contents (Elt F) arg7.view.ty) :
    pb_k0_t1 𝒱 c bd i arg2 harg2 arg3 harg3 arg4 harg4 arg5 harg5 arg6 harg6 arg7 harg7 v0 X f3 f4 f5 f6 f7
        (Scf.trips k0_t1_loop.lb k0_t1_loop.ub k0_t1_loop.st)
      = loopL 𝒱 c bd i arg2 harg2 arg3 harg3 arg4 harg4 arg5 harg5 arg6 harg6 arg7 harg7 v0 X :=
  pb_indep 𝒱 c bd i arg2 harg2 arg3 harg3 arg4 harg4 arg5 harg5 arg6 harg6 arg7 harg7 v0 X _ _ _ _ _ _ _ _ _ _ _ le_rfl

end

set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x256x3072 .bf16) (harg2 : arg2.IsWhole) (arg3 : Memref sig .tc .vmem S1x256x3072 .fp8e4m3) (harg3 : arg3.IsWhole) (arg4 : Memref sig .tc .vmem S1x256x24 .f32) (harg4 : arg4.IsWhole) (arg5 : Memref sig .tc .vmem S1x256x3072 .bf16) (harg5 : arg5.IsWhole) (arg6 : Memref sig .tc .vmem S32x3072 .f32) (harg6 : arg6.IsWhole) (arg7 : Memref sig .tc .vmem S32x3072 .f32) (harg7 : arg7.IsWhole)
    (x0 : Vec F S1x256x3072 .bf16) :
    Σ' (L1 : List (View.Piece (Elt F) S1x256x3072 .fp8e4m3)), Σ' (L2 : List (View.Piece (Elt F) S1x256x24 .f32)), { L3 : List (View.Piece (Elt F) S1x256x3072 .bf16) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ d, owns (c : Thread nD τ) arg6 fullShare d) ∗ (∃ d, owns (c : Thread nD τ) arg7 fullShare d)) -∗ K ⟨⟩))
          ⊢ wp frame (wpE (defs₀ (F := F)) Variants.none c none) E (cc0_act i arg2 harg2 arg3 harg3 arg4 harg4 arg5 harg5 arg6 harg6 arg7 harg7) K } := by
  let L := loopL (F := F) Variants.none c none i arg2 harg2 arg3 harg3 arg4 harg4 arg5 harg5 arg6 harg6 arg7 harg7 (iota .tc S32x128 32 [1] iota_S32x128_d1_w32)
    (harg2.unread x0)
  refine ⟨L.1, L.2.1, L.2.2.1, fun E K => ?run⟩
  case run =>
    simp only [cc0_act_eq_skeleton]; unfold cc0_act_skel
    unfold owns
    iintro ⟨⟨%f0, %hf0, H0⟩, ⟨%d1, %f1, -, H1⟩, ⟨%d2, %f2, -, H2⟩, ⟨%d3, %f3, -, H3⟩, ⟨%ds0, %fs0, -, HS0⟩, ⟨%ds1, %fs1, -, HS1⟩, Hk⟩
    obtain rfl := harg2.eq_unread hf0
    sl_exec
    sl_step
    rw [pb_eq_loopL]
    iapply Hk
    isplitl [H0]
    · iexists _; isplitr; · ipureintro; exact harg2.read_unread _
      iexact H0
    isplitl [H1]; · iexists _; iexact H1
    isplitl [H2]; · iexists _; iexact H2
    isplitl [H3]; · iexists _; iexact H3
    isplitl [HS0]
    · iexists _, _; isplitr; swap; · iexact HS0
      ipureintro; rfl
    iexists _, _; isplitr; swap; · iexact HS1
    ipureintro; rfl

end Cert.ActIdeal.Gen

end
-- ==== Proof.ActFrame.lean ====
/-
The frame of the activation kernel on ideal numbers: the proof data over the run of `ActRun`, the launch, and what the call leaves.
-/
module

public import proofs.«01_k».proof.Proof.ActRun
public import Idealize.ShloMosaic.Lib.Claim

@[expose] public section

-- membership in a rectangle of production extents (`View.cover_of_tiled`): the elaborator's structural look
-- recurses once per coordinate of the long axes
set_option maxRecDepth 16384

noncomputable section

namespace Cert.ActIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 1 tile its block (192 stores of `S1x32x128`, checked by the kernel's evaluation: Lib/Ring.lean `Piece.tiledL`, linear in the pieces, through a loop's `@[irreducible]` trip theorem too), so they cover it. -/
theorem cover0_A_1 (c : Dev nD) (i : grid0.Coords) (arg2 : Memref sig .tc .vmem S1x256x3072 .bf16) (harg2 : arg2.IsWhole) (arg3 : Memref sig .tc .vmem S1x256x3072 .fp8e4m3) (harg3 : arg3.IsWhole) (arg4 : Memref sig .tc .vmem S1x256x24 .f32) (harg4 : arg4.IsWhole) (arg5 : Memref sig .tc .vmem S1x256x3072 .bf16) (harg5 : arg5.IsWhole) (arg6 : Memref sig .tc .vmem S32x3072 .f32) (harg6 : arg6.IsWhole) (arg7 : Memref sig .tc .vmem S32x3072 .f32) (harg7 : arg7.IsWhole)
    (x0 : Vec F S1x256x3072 .bf16) (y : S1x256x3072.Idx) :
    ∃ pc ∈ (kernelRun0_A c i arg2 harg2 arg3 harg3 arg4 harg4 arg5 harg5 arg6 harg6 arg7 harg7 x0).1, y ∈ pc.1.set :=
  View.cover_of_tiledL (kernelRun0_A c i arg2 harg2 arg3 harg3 arg4 harg4 arg5 harg5 arg6 harg6 arg7 harg7 x0).1 S1x32x128.size (by sl_kernel_rfl) y

/-- What the run leaves in output 1's staging buffer: its pieces read back over junk. -/
def out0_A_1 (c : Dev nD) (i : grid0.Coords) (arg2 : Memref sig .tc .vmem S1x256x3072 .bf16) (harg2 : arg2.IsWhole) (arg3 : Memref sig .tc .vmem S1x256x3072 .fp8e4m3) (harg3 : arg3.IsWhole) (arg4 : Memref sig .tc .vmem S1x256x24 .f32) (harg4 : arg4.IsWhole) (arg5 : Memref sig .tc .vmem S1x256x3072 .bf16) (harg5 : arg5.IsWhole) (arg6 : Memref sig .tc .vmem S32x3072 .f32) (harg6 : arg6.IsWhole) (arg7 : Memref sig .tc .vmem S32x3072 .f32) (harg7 : arg7.IsWhole)
    (x0 : Vec F S1x256x3072 .bf16) : Vec F S1x256x3072 .fp8e4m3 :=
  VO0_1.read (Elt F) (VO0_1.writes (Elt F) VO0_1.junk (kernelRun0_A c i arg2 harg2 arg3 harg3 arg4 harg4 arg5 harg5 arg6 harg6 arg7 harg7 x0).1)

/-- The run's pieces for output 2 tile its block (8 stores of `S1x32x24`, checked by the kernel's evaluation: Lib/Ring.lean `Piece.tiledL`, linear in the pieces, through a loop's `@[irreducible]` trip theorem too), so they cover it. -/
theorem cover0_A_2 (c : Dev nD) (i : grid0.Coords) (arg2 : Memref sig .tc .vmem S1x256x3072 .bf16) (harg2 : arg2.IsWhole) (arg3 : Memref sig .tc .vmem S1x256x3072 .fp8e4m3) (harg3 : arg3.IsWhole) (arg4 : Memref sig .tc .vmem S1x256x24 .f32) (harg4 : arg4.IsWhole) (arg5 : Memref sig .tc .vmem S1x256x3072 .bf16) (harg5 : arg5.IsWhole) (arg6 : Memref sig .tc .vmem S32x3072 .f32) (harg6 : arg6.IsWhole) (arg7 : Memref sig .tc .vmem S32x3072 .f32) (harg7 : arg7.IsWhole)
    (x0 : Vec F S1x256x3072 .bf16) (y : S1x256x24.Idx) :
    ∃ pc ∈ (kernelRun0_A c i arg2 harg2 arg3 harg3 arg4 harg4 arg5 harg5 arg6 harg6 arg7 harg7 x0).2.1, y ∈ pc.1.set :=
  View.cover_of_tiledL (kernelRun0_A c i arg2 harg2 arg3 harg3 arg4 harg4 arg5 harg5 arg6 harg6 arg7 harg7 x0).2.1 S1x32x24.size (by sl_kernel_rfl) y

/-- What the run leaves in output 2's staging buffer: its pieces read back over junk. -/
def out0_A_2 (c : Dev nD) (i : grid0.Coords) (arg2 : Memref sig .tc .vmem S1x256x3072 .bf16) (harg2 : arg2.IsWhole) (arg3 : Memref sig .tc .vmem S1x256x3072 .fp8e4m3) (harg3 : arg3.IsWhole) (arg4 : Memref sig .tc .vmem S1x256x24 .f32) (harg4 : arg4.IsWhole) (arg5 : Memref sig .tc .vmem S1x256x3072 .bf16) (harg5 : arg5.IsWhole) (arg6 : Memref sig .tc .vmem S32x3072 .f32) (harg6 : arg6.IsWhole) (arg7 : Memref sig .tc .vmem S32x3072 .f32) (harg7 : arg7.IsWhole)
    (x0 : Vec F S1x256x3072 .bf16) : Vec F S1x256x24 .f32 :=
  VO0_2.read (Elt F) (VO0_2.writes (Elt F) VO0_2.junk (kernelRun0_A c i arg2 harg2 arg3 harg3 arg4 harg4 arg5 harg5 arg6 harg6 arg7 harg7 x0).2.1)

/-- The run's pieces for output 3 tile its block (192 stores of `S1x32x128`, checked by the kernel's evaluation: Lib/Ring.lean `Piece.tiledL`, linear in the pieces, through a loop's `@[irreducible]` trip theorem too), so they cover it. -/
theorem cover0_A_3 (c : Dev nD) (i : grid0.Coords) (arg2 : Memref sig .tc .vmem S1x256x3072 .bf16) (harg2 : arg2.IsWhole) (arg3 : Memref sig .tc .vmem S1x256x3072 .fp8e4m3) (harg3 : arg3.IsWhole) (arg4 : Memref sig .tc .vmem S1x256x24 .f32) (harg4 : arg4.IsWhole) (arg5 : Memref sig .tc .vmem S1x256x3072 .bf16) (harg5 : arg5.IsWhole) (arg6 : Memref sig .tc .vmem S32x3072 .f32) (harg6 : arg6.IsWhole) (arg7 : Memref sig .tc .vmem S32x3072 .f32) (harg7 : arg7.IsWhole)
    (x0 : Vec F S1x256x3072 .bf16) (y : S1x256x3072.Idx) :
    ∃ pc ∈ (kernelRun0_A c i arg2 harg2 arg3 harg3 arg4 harg4 arg5 harg5 arg6 harg6 arg7 harg7 x0).2.2.1, y ∈ pc.1.set :=
  View.cover_of_tiledL (kernelRun0_A c i arg2 harg2 arg3 harg3 arg4 harg4 arg5 harg5 arg6 harg6 arg7 harg7 x0).2.2.1 S1x32x128.size (by sl_kernel_rfl) y

/-- What the run leaves in output 3's staging buffer: its pieces read back over junk. -/
def out0_A_3 (c : Dev nD) (i : grid0.Coords) (arg2 : Memref sig .tc .vmem S1x256x3072 .bf16) (harg2 : arg2.IsWhole) (arg3 : Memref sig .tc .vmem S1x256x3072 .fp8e4m3) (harg3 : arg3.IsWhole) (arg4 : Memref sig .tc .vmem S1x256x24 .f32) (harg4 : arg4.IsWhole) (arg5 : Memref sig .tc .vmem S1x256x3072 .bf16) (harg5 : arg5.IsWhole) (arg6 : Memref sig .tc .vmem S32x3072 .f32) (harg6 : arg6.IsWhole) (arg7 : Memref sig .tc .vmem S32x3072 .f32) (harg7 : arg7.IsWhole)
    (x0 : Vec F S1x256x3072 .bf16) : Vec F S1x256x3072 .bf16 :=
  VO0_3.read (Elt F) (VO0_3.writes (Elt F) VO0_3.junk (kernelRun0_A c i arg2 harg2 arg3 harg3 arg4 harg4 arg5 harg5 arg6 harg6 arg7 harg7 x0).2.2.1)

/-! ## What the outputs hold after each point -/

/-- What the outputs' staging buffers hold after the body at point `t` (as a tuple, in window order): the run's contents at
    the point's memrefs and input blocks. -/
def outsAt0 (c : Dev nD) (t : Fin cfg0.N) : Vec F S1x256x3072 .fp8e4m3 × Vec F S1x256x24 .f32 × Vec F S1x256x3072 .bf16 :=
  (out0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t), out0_A_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t), out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t).1
    | ⟨2, _⟩ => (outsAt0 m c t).2.1
    | ⟨3, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = (outsAt0 m c t).1 := by dsimp only [dats]
theorem after0_2 (c : Dev nD) (t : Fin cfg0.N) : (dats m 0 c).after 2 t = (outsAt0 m c t).2.1 := by dsimp only [dats]
theorem after0_3 (c : Dev nD) (t : Fin cfg0.N) : (dats m 0 c).after 3 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outsAt0
  unfold out0_A_1 out0_A_2 out0_A_3; (try dsimp only)
  iintro ⟨⟨⟨HS0, HS1⟩, Hg⟩, Ho, ⟨%d0, H0⟩, ⟨%d1, H1⟩, ⟨%d2, H2⟩, ⟨%d3, H3⟩⟩
  iapply ((kernelRun0_A c (grid0.coords t) _ _ _ _ _ _ _ _ _ _ _ _ (iblk m c 0 t)).2.2.2 Set.univ _)
  isplitl [H0]; · iexact H0
  isplitl [H1]; · iexists _; iexact H1
  isplitl [H2]; · iexists _; iexact H2
  isplitl [H3]; · iexists _; iexact H3
  isplitl [HS0]; · iexact HS0
  isplitl [HS1]; · iexact HS1
  iintro ⟨H0, ⟨%e1, H1⟩, ⟨%e2, H2⟩, ⟨%e3, H3⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]
  · unfold owns; iexists _; isplitr
    swap; · iexact H1
    ipureintro; exact View.read_writes_of_cover _ _ _ _ _ (cover0_A_1 c _ _ _ _ _ _ _ _ _ _ _ _ _ _)
  isplitl [H2]
  · unfold owns; iexists _; isplitr
    swap; · iexact H2
    ipureintro; exact View.read_writes_of_cover _ _ _ _ _ (cover0_A_2 c _ _ _ _ _ _ _ _ _ _ _ _ _ _)
  unfold owns; iexists _; isplitr
  swap; · iexact H3
  ipureintro; exact View.read_writes_of_cover _ _ _ _ _ (cover0_A_3 c _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- THE FRAME: `Cert.quiescent_ActIdeal`'s statement (Defs.lean) at any `F` — Proof.lean cites it at `Bits`:
    `theorem Cert.Proof.claim : Cert.Claim := ⟨Cert.ActIdeal.Gen.facts, fun m ρ _ => Cert.ActIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.ActIdeal.Gen

end
-- ==== Proof.ActDev.lean ====
/-
The first half of a trip of the activation kernel's loop: the mean of a row and what the two scratch buffers hold of its deviations.
-/
module

public import proofs.«01_k».proof.Proof.Gen.ActIdeal.Loops
public import Idealize.ShloMosaic.Lib.Pipeline.ValueKit
public import Idealize.ShloMosaic.Lib.Pipeline.ReadBack
public import Idealize.ShloMosaic.Lib.Ring

@[expose] public section

set_option maxRecDepth 16384

noncomputable section

namespace Cert.ActIdeal.ActValue

open Idealize.ShloMosaic Idealize.ShloMosaic.TcCoe Idealize.ShloMosaic.Tactic Idealize.SL.Sem
open Cert.ActIdeal Cert.ActIdeal.Gen

/-- Where a trip's loads and stores lie: 32 rows from row `32 k`, 128 columns from a column that the program spells out. -/
theorem offs : ∀ k : Fin k0_t1_loop.trips,
    k0_off1 k = ![0, 32 * k.val, 0] ∧ k0_off2 k = ![0, 32 * k.val, 128] ∧ k0_off3 k = ![0, 32 * k.val, 256] ∧ k0_off4 k = ![0, 32 *
      k.val, 384] ∧ k0_off5 k = ![0, 32 * k.val, 512] ∧ k0_off6 k = ![0, 32 * k.val, 640] ∧ k0_off7 k = ![0, 32 * k.val, 768] ∧ k0_off8
      k = ![0, 32 * k.val, 896] ∧ k0_off9 k = ![0, 32 * k.val, 1024] ∧ k0_off10 k = ![0, 32 * k.val, 1152] ∧ k0_off11 k = ![0, 32 *
      k.val, 1280] ∧ k0_off12 k = ![0, 32 * k.val, 1408] ∧ k0_off13 k = ![0, 32 * k.val, 1536] ∧ k0_off14 k = ![0, 32 * k.val, 1664] ∧
      k0_off15 k = ![0, 32 * k.val, 1792] ∧ k0_off16 k = ![0, 32 * k.val, 1920] ∧ k0_off17 k = ![0, 32 * k.val, 2048] ∧ k0_off18 k =
      ![0, 32 * k.val, 2176] ∧ k0_off19 k = ![0, 32 * k.val, 2304] ∧ k0_off20 k = ![0, 32 * k.val, 2432] ∧ k0_off21 k = ![0, 32 * k.val,
      2560] ∧ k0_off22 k = ![0, 32 * k.val, 2688] ∧ k0_off23 k = ![0, 32 * k.val, 2816] ∧ k0_off24 k = ![0, 32 * k.val, 2944] ∧ k0_off25
      k = ![0, 32 * k.val, 0] := by
  decide +kernel

/-- A sum over the 3072 columns, taken block by block: the 24 blocks at a lane, then the 128 lanes. -/
theorem sum_blocks (f : Fin 3072 → EReal) : ∑ c, f c = ∑ l : Fin 128, (
        f ⟨0 + l, by omega⟩ + f ⟨128 + l, by omega⟩ + f ⟨256 + l, by omega⟩ + f ⟨384 + l, by omega⟩ + f ⟨512 + l, by omega⟩ + f ⟨640 + l, by omega⟩
        + f ⟨768 + l, by omega⟩ + f ⟨896 + l, by omega⟩ + f ⟨1024 + l, by omega⟩ + f ⟨1152 + l, by omega⟩ + f ⟨1280 + l, by omega⟩ + f ⟨1408 + l, by
        omega⟩ + f ⟨1536 + l, by omega⟩ + f ⟨1664 + l, by omega⟩ + f ⟨1792 + l, by omega⟩ + f ⟨1920 + l, by omega⟩ + f ⟨2048 + l, by omega⟩ + f
        ⟨2176 + l, by omega⟩ + f ⟨2304 + l, by omega⟩ + f ⟨2432 + l, by omega⟩ + f ⟨2560 + l, by omega⟩ + f ⟨2688 + l, by omega⟩ + f ⟨2816 + l, by
        omega⟩ + f ⟨2944 + l, by omega⟩) := by
  rw [Fin.sum_univ_tiles 24 128 rfl f, Finset.sum_comm]
  refine Finset.sum_congr rfl fun l _ => ?_
  simp only [Fin.sum_univ_castSucc, Fin.sum_univ_zero]
  rw [zero_add (f _)]
  rfl

def mean (x : Fin 3072 → EReal) : EReal := Ideal.div (∑ c, x c) (Ideal.ofBits .f32 1161822208#32)

variable (arg2 : Memref sig .tc .vmem S1x256x3072 .bf16) (X : BufTy.Contents (Elt Ideal) arg2.view.ty) (k : Fin k0_t1_loop.trips)

/-- Row `r` of the trip's 32 rows of the block. -/
def row (r : Fin 32) (c : Fin 3072) : EReal :=
  arg2.view.read (Elt Ideal) X (ix3 0 ⟨32 * k.val + r, by have := k.isLt; have : k0_t1_loop.trips ≤ 8 := k0_t1_abs.2.1; omega⟩ c)

theorem rd {off : Fin 3 → ℕ} (inb : ∀ a, off a + S1x32x128.size a ≤ S1x256x3072.size a) (h : off 1 = 32 * k.val) (r : Fin 32) (l : Fin 128) :
    View.readAt (Elt Ideal) arg2.view (Rect.unit (s := S1x256x3072) off S1x32x128.size inb).toLoadRect X (ix3 (n0 := 1) 0 r l)
      = row arg2 X k r ⟨off 2 + l, by have h2 : off 2 + 128 ≤ 3072 := inb 2; omega⟩ := by
  have h0 : off 0 + 1 ≤ 1 := inb 0
  unfold row
  rw [View.readAt_apply]
  refine congrArg _ (funext fun a => Fin.ext ?_)
  fin_cases a <;> simp <;> omega

theorem r3_at (r : Fin 32) : trip_k0_t1.sl.r_3 (F := Ideal) arg2 X k (ix2 r 0) = mean (row arg2 X k r) := by
  pointwise [trip_k0_t1.sl.r_3, trip_k0_t1.sl.r_2, trip_k0_t1.sl.r_1, trip_k0_t1.sl.r, k0_pay1, k0_pay2, k0_pay3, k0_pay4]
  rw [mean, sum_blocks]
  simp only [rd arg2 X k, offs k, Matrix.cons_val]

def dev (x : Fin 3072 → EReal) (c : Fin 3072) : EReal := x c - mean x

def rstd (x : Fin 3072 → EReal) : EReal :=
  Ideal.rsqrt (Ideal.div (∑ c, dev x c * dev x c) (Ideal.ofBits .f32 1161822208#32) + Ideal.ofBits .f32 0x358637BD#32)

def hh (x : Fin 3072 → EReal) (c : Fin 3072) : EReal := dev x c * rstd x

theorem r15_at (r : Fin 32) : trip_k0_t1.sl.r_15 (F := Ideal) arg2 X k (ix2 r 0) = rstd (row arg2 X k r) := by
  pointwise [trip_k0_t1.sl.r_15, trip_k0_t1.sl.r_14, trip_k0_t1.sl.r_13, trip_k0_t1.sl.r_12, trip_k0_t1.sl.r_11, trip_k0_t1.sl.r_10, trip_k0_t1.sl.r_9,
    trip_k0_t1.sl.r_8, trip_k0_t1.sl.r_7, trip_k0_t1.sl.r_6, trip_k0_t1.sl.r_5, trip_k0_t1.sl.r_4, r3_at, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61]
  simp only [rd arg2 X k, offs k, Matrix.cons_val]
  rw [rstd, sum_blocks]
  unfold dev
  with_reducible rfl

/-- What the row buffers hold after a trip's first two passes: the deviations, then the normalized row. -/
def G6 (y : S32x3072.Idx) : EReal := dev (row arg2 X k (y 0)) (y 1)
def G7 (y : S32x3072.Idx) : EReal := hh (row arg2 X k (y 0)) (y 1)

theorem G6_at {off : Fin 2 → ℕ} (inb : ∀ a, off a + S32x128.size a ≤ S32x3072.size a) (r : Fin 32) (l : Fin 128) :
    G6 arg2 X k ((Rect.unit (s := S32x3072) off S32x128.size inb).emb (ix2 (n0 := 32) (n1 := 128) r l))
      = dev (row arg2 X k r) ⟨off 1 + l, by have h1 : off 1 + 128 ≤ 3072 := inb 1; omega⟩ := by
  have h0 : off 0 + 32 ≤ 32 := inb 0
  unfold G6
  congr 1
  · congr 1; apply Fin.ext; show off 0 + 1 * r.val = r.val; omega
  · apply Fin.ext; show off 1 + 1 * l.val = off 1 + l.val; omega

theorem pieces6 : View.PiecesOf (Val := Elt Ideal) (e := .f32) (G6 arg2 X k) (trip_k0_t1.sl.HW_arg6_24 arg2 X k) := by
  unfold trip_k0_t1.sl.HW_arg6_24
  simp only [View.PiecesOf]
  refine ⟨?_, ?_, ?_, ?_, ?_, ?_, ?_, ?_, ?_, ?_, ?_, ?_, ?_, ?_, ?_, ?_, ?_, ?_, ?_, ?_, ?_, ?_, ?_, ?_, trivial⟩
  all_goals
    intro i
    idx_vars i
    pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, trip_k0_t1.sl.r_14, trip_k0_t1.sl.r_12, trip_k0_t1.sl.r_7, trip_k0_t1.sl.r_5, r3_at]
    rw [G6_at]
    simp only [rd arg2 X k, offs k, Matrix.cons_val, dev]

theorem cov6 (arg6 : Memref sig .tc .vmem S32x3072 .f32) {off : Fin 2 → ℕ} (inb : ∀ a, off a + S32x128.size a ≤ S32x3072.size a) (r : Fin 32) (l : Fin 128) :
    arg6.view.readCov (Val := Elt Ideal) (trip_k0_t1.sl.HW_arg6_24 arg2 X k) (Rect.unit (s := S32x3072) off S32x128.size inb).toLoadRect (ix2 (n0 := 32) (n1 := 128) r l)
      = dev (row arg2 X k r) ⟨off 1 + l, by have h1 : off 1 + 128 ≤ 3072 := inb 1; omega⟩ := by
  rw [View.readCov_eq_canon', ← G6_at arg2 X k inb r l]
  exact View.canon_apply_of_pieces _ _ (pieces6 arg2 X k).mem _ (View.cover_of_tiledL (s := S32x3072) _ S32x128.size (by sl_kernel_rfl) _)

end Cert.ActIdeal.ActValue

end
-- ==== Proof.ActRow.lean ====
/-
The normalised entries of a trip's rows, and the largest magnitude of each block of 128, collected lane by lane.
-/
module

public import proofs.«01_k».proof.Proof.ActDev
public import Idealize.ShloMosaic.Lib.Pipeline.ValueKit
public import Idealize.ShloMosaic.Lib.Pipeline.ReadBack
public import Idealize.ShloMosaic.Lib.Ring

@[expose] public section

set_option maxRecDepth 16384

noncomputable section

namespace Cert.ActIdeal.ActValue

open Idealize.ShloMosaic Idealize.ShloMosaic.TcCoe Idealize.ShloMosaic.Tactic Idealize.SL.Sem
open Cert.ActIdeal Cert.ActIdeal.Gen

variable (arg2 : Memref sig .tc .vmem S1x256x3072 .bf16) (X : BufTy.Contents (Elt Ideal) arg2.view.ty) (k : Fin k0_t1_loop.trips)

theorem r15_at' (r : Fin 32) : k0_pay61 (F := Ideal) (trip_k0_t1.sl.r_3 arg2 X k) (trip_k0_t1.sl.r_13 arg2 X k) (trip_k0_t1.sl.r_14 arg2 X k)
    (View.readAt (Elt Ideal) arg2.view (Rect.unit (s := S1x256x3072) (k0_off24 k) S1x32x128.size (k0_off24_inb k)).toLoadRect X) (ix2 r 0) = rstd (row arg2 X k r) :=
  r15_at arg2 X k r

variable (arg6 : Memref sig .tc .vmem S32x3072 .f32)

theorem G7_at {off : Fin 2 → ℕ} (inb : ∀ a, off a + S32x128.size a ≤ S32x3072.size a) (r : Fin 32) (l : Fin 128) :
    G7 arg2 X k ((Rect.unit (s := S32x3072) off S32x128.size inb).emb (ix2 (n0 := 32) (n1 := 128) r l))
      = hh (row arg2 X k r) ⟨off 1 + l, by have h1 : off 1 + 128 ≤ 3072 := inb 1; omega⟩ := by
  have h0 : off 0 + 32 ≤ 32 := inb 0
  unfold G7
  congr 1
  · congr 1; apply Fin.ext; show off 0 + 1 * r.val = r.val; omega
  · apply Fin.ext; show off 1 + 1 * l.val = off 1 + l.val; omega

theorem pieces7 : View.PiecesOf (Val := Elt Ideal) (e := .f32) (G7 arg2 X k) (trip_k0_t1.sl.HW_arg7_24 arg2 arg6 X k) := by
  unfold trip_k0_t1.sl.HW_arg7_24
  simp only [View.PiecesOf]
  refine ⟨?_, ?_, ?_, ?_, ?_, ?_, ?_, ?_, ?_, ?_, ?_, ?_, ?_, ?_, ?_, ?_, ?_, ?_, ?_, ?_, ?_, ?_, ?_, ?_, trivial⟩
  all_goals
    intro i
    idx_vars i
    pointwise [k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.v402, trip_k0_t1.sl.v416, trip_k0_t1.sl.v430, trip_k0_t1.sl.v444, trip_k0_t1.sl.v458, trip_k0_t1.sl.v472, trip_k0_t1.sl.v486, trip_k0_t1.sl.v500, trip_k0_t1.sl.v514, trip_k0_t1.sl.v528, trip_k0_t1.sl.v542, trip_k0_t1.sl.v556, trip_k0_t1.sl.v570, trip_k0_t1.sl.v584, trip_k0_t1.sl.v598, trip_k0_t1.sl.v612, trip_k0_t1.sl.v626, trip_k0_t1.sl.v640, trip_k0_t1.sl.v654, trip_k0_t1.sl.v668, trip_k0_t1.sl.v682, trip_k0_t1.sl.v696, trip_k0_t1.sl.v710, trip_k0_t1.sl.v724, r15_at, r15_at']
    rw [G7_at]
    rw [cov6 arg2 X k arg6]
    try rw [r15_at' arg2 X k]
    simp only [Matrix.cons_val, hh]

theorem cov7 (arg7 : Memref sig .tc .vmem S32x3072 .f32) {off : Fin 2 → ℕ} (inb : ∀ a, off a + S32x128.size a ≤ S32x3072.size a) (r : Fin 32) (l : Fin 128) :
    arg7.view.readCov (Val := Elt Ideal) (trip_k0_t1.sl.HW_arg7_24 arg2 arg6 X k) (Rect.unit (s := S32x3072) off S32x128.size inb).toLoadRect (ix2 (n0 := 32) (n1 := 128) r l)
      = hh (row arg2 X k r) ⟨off 1 + l, by have h1 : off 1 + 128 ≤ 3072 := inb 1; omega⟩ := by
  rw [View.readCov_eq_canon', ← G7_at arg2 X k inb r l]
  exact View.canon_apply_of_pieces _ _ (pieces7 arg2 X k arg6).mem _ (View.cover_of_tiledL (s := S32x3072) _ S32x128.size (by sl_kernel_rfl) _)

end Cert.ActIdeal.ActValue

end
-- ==== Proof.ActScale.lean ====
/-
A trip's power-of-two scales, as a function of the row and the block.
-/
module

public import proofs.«01_k».proof.Proof.ActRow
public import Idealize.ShloMosaic.Lib.Pipeline.ValueKit
public import Idealize.ShloMosaic.Lib.Pipeline.ReadBack
public import Idealize.ShloMosaic.Lib.Ring

@[expose] public section

set_option maxRecDepth 16384

noncomputable section

namespace Cert.ActIdeal.ActValue

open Idealize.ShloMosaic Idealize.ShloMosaic.TcCoe Idealize.ShloMosaic.Tactic Idealize.SL.Sem
open Cert.ActIdeal Cert.ActIdeal.Gen

variable (arg2 : Memref sig .tc .vmem S1x256x3072 .bf16) (X : BufTy.Contents (Elt Ideal) arg2.view.ty) (k : Fin k0_t1_loop.trips)
  (arg6 : Memref sig .tc .vmem S32x3072 .f32)

theorem covabs {off : Fin 2 → ℕ} (inb : ∀ a, off a + S32x128.size a ≤ S32x3072.size a) (r : Fin 32) :
    (fun l : Fin 128 => FloatOps.absf (arg6.view.readCov (Val := Elt Ideal) (trip_k0_t1.sl.HW_arg6_24 arg2 X k)
        (Rect.unit (s := S32x3072) off S32x128.size inb).toLoadRect (ix2 (n0 := 32) (n1 := 128) r l) * rstd (row arg2 X k r)))
      = fun l : Fin 128 => FloatOps.absf (F := Ideal) (φ := .f32) (hh (row arg2 X k r) ⟨off 1 + l, by have h1 : off 1 + 128 ≤ 3072 := inb 1; omega⟩) :=
  funext fun l => by rw [cov6 arg2 X k arg6]; rfl

/-- The largest magnitude of a block of 128 of the row. -/
def am (x : Fin 3072 → EReal) (j : Fin 24) : EReal :=
  Finset.univ.fold max (Ideal.ofBits .f32 0xFF800000#32) fun l : Fin 128 => FloatOps.absf (F := Ideal) (φ := .f32) (hh x ⟨128 * j + l, by omega⟩)

theorem ladder (r : Fin 32) (j : Fin 24) (l : Fin 128) (hl : l.val = j.val) :
    Scalar.select (k0_pay124 (iota .tc S32x128 32 [1] iota_S32x128_d1_w32) (ix2 r l)) (trip_k0_t1.sl.r_32 (F := Ideal) arg2 arg6 X k (ix2 r 0))
      (trip_k0_t1.sl.r_31 (F := Ideal) arg2 arg6 (iota .tc S32x128 32 [1] iota_S32x128_d1_w32) X k (ix2 r l)) = am (row arg2 X k r) j := by
  pointwise [k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.v402, trip_k0_t1.sl.v416, trip_k0_t1.sl.v430, trip_k0_t1.sl.v444, trip_k0_t1.sl.v458, trip_k0_t1.sl.v472, trip_k0_t1.sl.v486, trip_k0_t1.sl.v500, trip_k0_t1.sl.v514, trip_k0_t1.sl.v528, trip_k0_t1.sl.v542, trip_k0_t1.sl.v556, trip_k0_t1.sl.v570, trip_k0_t1.sl.v584, trip_k0_t1.sl.v598, trip_k0_t1.sl.v612, trip_k0_t1.sl.v626, trip_k0_t1.sl.v640, trip_k0_t1.sl.v654, trip_k0_t1.sl.v668, trip_k0_t1.sl.v682, trip_k0_t1.sl.v696, trip_k0_t1.sl.v710, trip_k0_t1.sl.v724, r15_at, r15_at']
  rw [r15_at' arg2 X k]
  repeat rw [covabs arg2 X k arg6]
  simp only [Matrix.cons_val]
  rw [hl]
  clear hl l
  fin_cases j <;> rfl

/-- The block's exponent: the floor of the base-two logarithm of its largest magnitude over 448, plus one. -/
def ex (a : EReal) : EReal :=
  Ideal.liftRound Int.floor (Ideal.div (Ideal.log (a * Ideal.ofBits .f32 0x3B124925#32)) (Ideal.ofBits .f32 0x3F317218#32)) + 1

/-- The block's scale and its inverse, a power of two and one over it; both 1 for a block of zeros. -/
def sc (a : EReal) : EReal := if a * Ideal.ofBits .f32 0x3B124925#32 = 0 then 1 else FloatOps.exp2 (F := Ideal) (φ := .f32) (ex a)
def iv (a : EReal) : EReal := if a * Ideal.ofBits .f32 0x3B124925#32 = 0 then 1 else FloatOps.exp2 (F := Ideal) (φ := .f32) (0 - ex a)

theorem r33_at (r : Fin 32) (l : Fin 128) (h : l.val < 24) :
    trip_k0_t1.sl.r_33 (F := Ideal) arg2 arg6 (iota .tc S32x128 32 [1] iota_S32x128_d1_w32) X k (ix2 r l) = iv (am (row arg2 X k r) ⟨l, h⟩) := by
  pointwise [trip_k0_t1.sl.r_33, k0_pay130, k0_pay129, k0_pay128, k0_pay127, k0_pay126]
  rw [ladder arg2 X k arg6 r ⟨l, h⟩ l rfl, iv, ex]

theorem r34_at (r : Fin 32) (l : Fin 128) (h : l.val < 24) :
    trip_k0_t1.sl.r_34 (F := Ideal) arg2 arg6 (iota .tc S32x128 32 [1] iota_S32x128_d1_w32) X k (ix2 r l) = sc (am (row arg2 X k r) ⟨l, h⟩) := by
  pointwise [trip_k0_t1.sl.r_34, k0_pay132, k0_pay130, k0_pay129, k0_pay128, k0_pay127, k0_pay126]
  rw [ladder arg2 X k arg6 r ⟨l, h⟩ l rfl, sc, ex]

/-- The same two before the loop's body has named them. -/
theorem r33_at' (r : Fin 32) (l : Fin 128) (h : l.val < 24) :
    k0_pay130 (trip_k0_t1.sl.r_31 (F := Ideal) arg2 arg6 (iota .tc S32x128 32 [1] iota_S32x128_d1_w32) X k) (k0_pay124 (iota .tc S32x128 32 [1] iota_S32x128_d1_w32)) (trip_k0_t1.sl.r_32 arg2 arg6 X k) (ix2 r l)
      = iv (am (row arg2 X k r) ⟨l, h⟩) := r33_at arg2 X k arg6 r l h

theorem r34_at' (r : Fin 32) (l : Fin 128) (h : l.val < 24) :
    k0_pay132 (trip_k0_t1.sl.r_31 (F := Ideal) arg2 arg6 (iota .tc S32x128 32 [1] iota_S32x128_d1_w32) X k) (k0_pay124 (iota .tc S32x128 32 [1] iota_S32x128_d1_w32)) (trip_k0_t1.sl.r_32 arg2 arg6 X k) (ix2 r l)
      = sc (am (row arg2 X k r) ⟨l, h⟩) := r34_at arg2 X k arg6 r l h

theorem pay131_at (r : Fin 32) (j : Fin 24) :
    k0_pay131 (trip_k0_t1.sl.r_31 (F := Ideal) arg2 arg6 (iota .tc S32x128 32 [1] iota_S32x128_d1_w32) X k) (k0_pay124 (iota .tc S32x128 32 [1] iota_S32x128_d1_w32)) (trip_k0_t1.sl.r_32 arg2 arg6 X k) (ix3 0 r j)
      = sc (am (row arg2 X k r) j) := by
  pointwise [k0_pay131, k0_pay130, k0_pay129, k0_pay128, k0_pay127, k0_pay126]
  rw [ladder arg2 X k arg6 r j _ rfl, sc, ex]

end Cert.ActIdeal.ActValue

end
-- ==== Proof.ActOut.lean ====
/-
The pieces a trip writes into the three outputs, each a function of the row and the column.
-/
module

public import proofs.«01_k».proof.Proof.ActScale
public import Idealize.ShloMosaic.Lib.Pipeline.ValueKit
public import Idealize.ShloMosaic.Lib.Pipeline.ReadBack
public import Idealize.ShloMosaic.Lib.Ring

@[expose] public section

set_option maxRecDepth 16384

noncomputable section

namespace Cert.ActIdeal.ActValue

open Idealize.ShloMosaic Idealize.ShloMosaic.TcCoe Idealize.ShloMosaic.Tactic Idealize.SL.Sem
open Cert.ActIdeal Cert.ActIdeal.Gen

/-- A row's code at a column, and its product with the block's scale. -/
def code (x : Fin 3072 → EReal) (q : Fin 3072) : EReal :=
  min (Ideal.ofBits .f32 0x43E00000#32) (max (Ideal.ofBits .f32 0xC3E00000#32) (hh x q * iv (am x ⟨q / 128, by omega⟩)))

def hb (x : Fin 3072 → EReal) (q : Fin 3072) : EReal := code x q * sc (am x ⟨q / 128, by omega⟩)

theorem code_eq (x : Fin 3072 → EReal) (j : Fin 24) (p q : Fin 3072) (h : p.val = q.val) (hj : q.val / 128 = j.val) :
    min (Ideal.ofBits .f32 0x43E00000#32) (max (Ideal.ofBits .f32 0xC3E00000#32) (hh x p * iv (am x j))) = code x q := by
  obtain rfl := Fin.ext h
  have e : (⟨p / 128, by omega⟩ : Fin 24) = j := Fin.ext hj
  rw [← e]; rfl

theorem hb_eq (x : Fin 3072 → EReal) (j j' : Fin 24) (p q : Fin 3072) (h : p.val = q.val) (hj : q.val / 128 = j.val) (hj' : j'.val = j.val) :
    min (Ideal.ofBits .f32 0x43E00000#32) (max (Ideal.ofBits .f32 0xC3E00000#32) (hh x p * iv (am x j))) * sc (am x j') = hb x q := by
  obtain rfl := Fin.ext hj'
  rw [code_eq x j' p q h hj]
  have e : (⟨q / 128, by omega⟩ : Fin 24) = j' := Fin.ext hj
  rw [← e]; rfl

/-- What a block's three outputs hold, from the block `B` of the input: at a row, a function of that row alone. -/
def G3 (B : S1x256x3072.Idx → EReal) (y : S1x256x3072.Idx) : EReal := code (fun q => B (ix3 (n0 := 1) 0 (y 1) q)) (y 2)
def G4 (B : S1x256x3072.Idx → EReal) (y : S1x256x24.Idx) : EReal := sc (am (fun q => B (ix3 (n0 := 1) 0 (y 1) q)) (y 2))
def G5 (B : S1x256x3072.Idx → EReal) (y : S1x256x3072.Idx) : EReal := hb (fun q => B (ix3 (n0 := 1) 0 (y 1) q)) (y 2)

variable (𝒱 : Variants) (c : Dev nD) (bd : Option 𝒱.V) (i : grid0.Coords) (arg2 : Memref sig .tc .vmem S1x256x3072 .bf16) (harg2 : arg2.IsWhole)
  (arg3 : Memref sig .tc .vmem S1x256x3072 .fp8e4m3) (harg3 : arg3.IsWhole) (arg4 : Memref sig .tc .vmem S1x256x24 .f32) (harg4 : arg4.IsWhole)
  (arg5 : Memref sig .tc .vmem S1x256x3072 .bf16) (harg5 : arg5.IsWhole) (arg6 : Memref sig .tc .vmem S32x3072 .f32) (harg6 : arg6.IsWhole)
  (arg7 : Memref sig .tc .vmem S32x3072 .f32) (harg7 : arg7.IsWhole) (X : BufTy.Contents (Elt Ideal) arg2.view.ty) (k : Fin k0_t1_loop.trips)
  (f3 : BufTy.Contents (Elt Ideal) arg3.view.ty) (f4 : BufTy.Contents (Elt Ideal) arg4.view.ty)
  (f5 : BufTy.Contents (Elt Ideal) arg5.view.ty) (f6 : BufTy.Contents (Elt Ideal) arg6.view.ty) (f7 : BufTy.Contents (Elt Ideal) arg7.view.ty)

/-- A trip's rectangle of an output, at its rows: the row of the trip and the column counted from the rectangle's first. -/
theorem row_emb {off : Fin 3 → ℕ} (inb : ∀ a, off a + S1x32x128.size a ≤ S1x256x3072.size a) (h : off 1 = 32 * k.val) (r : Fin 32) (l : Fin 128)
    (f : (Fin 3072 → EReal) → Fin 3072 → EReal) :
    f (fun q => arg2.view.read (Elt Ideal) X (ix3 (n0 := 1) 0 ((Rect.unit (s := S1x256x3072) off S1x32x128.size inb).emb (ix3 (n0 := 1) 0 r l) 1) q))
        ((Rect.unit (s := S1x256x3072) off S1x32x128.size inb).emb (ix3 (n0 := 1) 0 r l) 2)
      = f (row arg2 X k r) ⟨off 2 + l, by have h2 : off 2 + 128 ≤ 3072 := inb 2; omega⟩ := by
  congr 1
  · funext q
    unfold row
    congr 2
    apply Fin.ext; show off 1 + 1 * r.val = 32 * k.val + r.val; omega
  · apply Fin.ext; show off 2 + 1 * l.val = off 2 + l.val; omega

theorem G3_at {off : Fin 3 → ℕ} (inb : ∀ a, off a + S1x32x128.size a ≤ S1x256x3072.size a) (h : off 1 = 32 * k.val) (r : Fin 32) (l : Fin 128) :
    G3 (arg2.view.read (Elt Ideal) X) ((Rect.unit (s := S1x256x3072) off S1x32x128.size inb).emb (ix3 (n0 := 1) 0 r l))
      = code (row arg2 X k r) ⟨off 2 + l, by have h2 : off 2 + 128 ≤ 3072 := inb 2; omega⟩ := row_emb arg2 X k inb h r l code

theorem G5_at {off : Fin 3 → ℕ} (inb : ∀ a, off a + S1x32x128.size a ≤ S1x256x3072.size a) (h : off 1 = 32 * k.val) (r : Fin 32) (l : Fin 128) :
    G5 (arg2.view.read (Elt Ideal) X) ((Rect.unit (s := S1x256x3072) off S1x32x128.size inb).emb (ix3 (n0 := 1) 0 r l))
      = hb (row arg2 X k r) ⟨off 2 + l, by have h2 : off 2 + 128 ≤ 3072 := inb 2; omega⟩ := row_emb arg2 X k inb h r l hb

theorem pieces3 : View.PiecesOf (Val := Elt Ideal) (e := .fp8e4m3) (G3 (arg2.view.read (Elt Ideal) X))
    (tripL_k0_t1 (F := Ideal) 𝒱 c bd i arg2 harg2 arg3 harg3 arg4 harg4 arg5 harg5 arg6 harg6 arg7 harg7 (iota .tc S32x128 32 [1] iota_S32x128_d1_w32) X k f3 f4 f5 f6 f7).1 := by
  unfold tripL_k0_t1 trip_k0_t1
  simp only [View.PiecesOf]
  refine ⟨?_, ?_, ?_, ?_, ?_, ?_, ?_, ?_, ?_, ?_, ?_, ?_, ?_, ?_, ?_, ?_, ?_, ?_, ?_, ?_, ?_, ?_, ?_, ?_, trivial⟩
  all_goals
    intro i
    idx_vars i
    obtain rfl : i0 = 0 := Subsingleton.elim _ _
    pointwise [k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.v762, trip_k0_t1.sl.v783, trip_k0_t1.sl.v804, trip_k0_t1.sl.v825, trip_k0_t1.sl.v846, trip_k0_t1.sl.v867, trip_k0_t1.sl.v888, trip_k0_t1.sl.v909, trip_k0_t1.sl.v930, trip_k0_t1.sl.v951, trip_k0_t1.sl.v972, trip_k0_t1.sl.v993, trip_k0_t1.sl.v1014, trip_k0_t1.sl.v1035, trip_k0_t1.sl.v1056, trip_k0_t1.sl.v1077, trip_k0_t1.sl.v1098, trip_k0_t1.sl.v1119, trip_k0_t1.sl.v1140, trip_k0_t1.sl.v1161, trip_k0_t1.sl.v1182, trip_k0_t1.sl.v1203, trip_k0_t1.sl.v1224, trip_k0_t1.sl.v1245]
    rw [cov7 arg2 X k arg6, G3_at arg2 X k]
    · first | rw [r33_at arg2 X k arg6] | rw [r33_at' arg2 X k arg6]
      · exact code_eq _ _ _ _ (by simp only [offs k, Matrix.cons_val]) (by first | (simp [offs k]; done) | (simp [offs k]; omega))
      all_goals decide
    · simp only [offs k, Matrix.cons_val]

theorem pieces4 : View.PiecesOf (Val := Elt Ideal) (e := .f32) (G4 (arg2.view.read (Elt Ideal) X))
    (tripL_k0_t1 (F := Ideal) 𝒱 c bd i arg2 harg2 arg3 harg3 arg4 harg4 arg5 harg5 arg6 harg6 arg7 harg7 (iota .tc S32x128 32 [1] iota_S32x128_d1_w32) X k f3 f4 f5 f6 f7).2.1 := by
  unfold tripL_k0_t1 trip_k0_t1
  simp only [View.PiecesOf]
  refine ⟨?_, trivial⟩
  intro i
  idx_vars i
  obtain rfl : i0 = 0 := Subsingleton.elim _ _
  rw [pay131_at arg2 X k arg6]
  unfold G4
  congr 2
  · funext q
    unfold row
    congr 2
    apply Fin.ext; show _ = k0_off25 k 1 + 1 * i1.val; simp only [offs k, Matrix.cons_val]; omega
  · apply Fin.ext; show _ = k0_off25 k 2 + 1 * i2.val; simp only [offs k, Matrix.cons_val]; omega

theorem pieces5 : View.PiecesOf (Val := Elt Ideal) (e := .bf16) (G5 (arg2.view.read (Elt Ideal) X))
    (tripL_k0_t1 (F := Ideal) 𝒱 c bd i arg2 harg2 arg3 harg3 arg4 harg4 arg5 harg5 arg6 harg6 arg7 harg7 (iota .tc S32x128 32 [1] iota_S32x128_d1_w32) X k f3 f4 f5 f6 f7).2.2.1 := by
  unfold tripL_k0_t1 trip_k0_t1
  simp only [View.PiecesOf]
  refine ⟨?_, ?_, ?_, ?_, ?_, ?_, ?_, ?_, ?_, ?_, ?_, ?_, ?_, ?_, ?_, ?_, ?_, ?_, ?_, ?_, ?_, ?_, ?_, ?_, trivial⟩
  all_goals
    intro i
    idx_vars i
    obtain rfl : i0 = 0 := Subsingleton.elim _ _
    pointwise [k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.v762, trip_k0_t1.sl.v783, trip_k0_t1.sl.v804, trip_k0_t1.sl.v825, trip_k0_t1.sl.v846, trip_k0_t1.sl.v867, trip_k0_t1.sl.v888, trip_k0_t1.sl.v909, trip_k0_t1.sl.v930, trip_k0_t1.sl.v951, trip_k0_t1.sl.v972, trip_k0_t1.sl.v993, trip_k0_t1.sl.v1014, trip_k0_t1.sl.v1035, trip_k0_t1.sl.v1056, trip_k0_t1.sl.v1077, trip_k0_t1.sl.v1098, trip_k0_t1.sl.v1119, trip_k0_t1.sl.v1140, trip_k0_t1.sl.v1161, trip_k0_t1.sl.v1182, trip_k0_t1.sl.v1203, trip_k0_t1.sl.v1224, trip_k0_t1.sl.v1245]
    rw [cov7 arg2 X k arg6, G5_at arg2 X k]
    · first | rw [r33_at arg2 X k arg6] | rw [r33_at' arg2 X k arg6]
      · first | rw [r34_at arg2 X k arg6] | rw [r34_at' arg2 X k arg6]
        · exact hb_eq _ _ _ _ _ (by simp only [offs k, Matrix.cons_val]) (by first | (simp [offs k]; done) | (simp [offs k]; omega)) rfl
        all_goals decide
      all_goals decide
    · simp only [offs k, Matrix.cons_val]

end Cert.ActIdeal.ActValue

end
-- ==== Proof.ActValue.lean ====
/-
The three arrays of the activation kernel after the run, each a function of the argument: the loop's pieces are blocks of one function
of a block's index, and the blocks of the grid tile each array.
-/
module

public import proofs.«01_k».proof.Proof.ActOut
public import proofs.«01_k».proof.Proof.ActFrame
public import Idealize.ShloMosaic.Lib.Pipeline.ValueKit
public import Idealize.ShloMosaic.Lib.Pipeline.ReadBack

@[expose] public section

set_option maxRecDepth 16384

noncomputable section

namespace Cert.ActIdeal.ActValue

open Idealize.ShloMosaic Idealize.ShloMosaic.TcCoe Idealize.ShloMosaic.Tactic Idealize.SL.Sem
open Idealize.ShloMosaic.Pipeline (Dat)
open Cert.ActIdeal Cert.ActIdeal.Gen

theorem piecesOf_append {Val : EltTy → Type} {s : Shape} {e : EltTy} {G : s.Idx → Val e} {L : List (View.Piece Val s e)} (h : View.PiecesOf G L) :
    ∀ {L' : List (View.Piece Val s e)}, View.PiecesOf G L' → View.PiecesOf G (L' ++ L)
  | [], _ => h
  | _ :: _, h' => ⟨h'.1, piecesOf_append h h'.2⟩

section
variable (𝒱 : Variants) (c : Dev nD) (bd : Option 𝒱.V) (i : grid0.Coords) (arg2 : Memref sig .tc .vmem S1x256x3072 .bf16) (harg2 : arg2.IsWhole)
  (arg3 : Memref sig .tc .vmem S1x256x3072 .fp8e4m3) (harg3 : arg3.IsWhole) (arg4 : Memref sig .tc .vmem S1x256x24 .f32) (harg4 : arg4.IsWhole)
  (arg5 : Memref sig .tc .vmem S1x256x3072 .bf16) (harg5 : arg5.IsWhole) (arg6 : Memref sig .tc .vmem S32x3072 .f32) (harg6 : arg6.IsWhole)
  (arg7 : Memref sig .tc .vmem S32x3072 .f32) (harg7 : arg7.IsWhole)
  (X : BufTy.Contents (Elt Ideal) arg2.view.ty)

/-- The pieces of the trips before `n` are blocks of the outputs' functions. -/
theorem pb_pieces (f3 : BufTy.Contents (Elt Ideal) arg3.view.ty) (f4 : BufTy.Contents (Elt Ideal) arg4.view.ty)
    (f5 : BufTy.Contents (Elt Ideal) arg5.view.ty) (f6 : BufTy.Contents (Elt Ideal) arg6.view.ty) (f7 : BufTy.Contents (Elt Ideal) arg7.view.ty) (n : ℕ)
    (hn : n ≤ k0_t1_loop.trips) :
    View.PiecesOf (Val := Elt Ideal) (e := .fp8e4m3) (G3 (arg2.view.read (Elt Ideal) X))
        (pb_k0_t1 (F := Ideal) 𝒱 c bd i arg2 harg2 arg3 harg3 arg4 harg4 arg5 harg5 arg6 harg6 arg7 harg7 (iota .tc S32x128 32 [1] iota_S32x128_d1_w32) X f3 f4 f5 f6 f7 n).1
      ∧ View.PiecesOf (Val := Elt Ideal) (e := .f32) (G4 (arg2.view.read (Elt Ideal) X))
        (pb_k0_t1 (F := Ideal) 𝒱 c bd i arg2 harg2 arg3 harg3 arg4 harg4 arg5 harg5 arg6 harg6 arg7 harg7 (iota .tc S32x128 32 [1] iota_S32x128_d1_w32) X f3 f4 f5 f6 f7 n).2.1
      ∧ View.PiecesOf (Val := Elt Ideal) (e := .bf16) (G5 (arg2.view.read (Elt Ideal) X))
        (pb_k0_t1 (F := Ideal) 𝒱 c bd i arg2 harg2 arg3 harg3 arg4 harg4 arg5 harg5 arg6 harg6 arg7 harg7 (iota .tc S32x128 32 [1] iota_S32x128_d1_w32) X f3 f4 f5 f6 f7 n).2.2.1 := by
  induction n with
  | zero => exact ⟨trivial, trivial, trivial⟩
  | succ n ih =>
    have ih := ih (by omega)
    rw [pb_k0_t1_succ 𝒱 c bd i arg2 harg2 arg3 harg3 arg4 harg4 arg5 harg5 arg6 harg6 arg7 harg7 (iota .tc S32x128 32 [1] iota_S32x128_d1_w32) X f3 f4 f5 f6 f7 ⟨n, hn⟩]
    exact ⟨piecesOf_append ih.1 (pieces3 ..), piecesOf_append ih.2.1 (pieces4 ..), piecesOf_append ih.2.2 (pieces5 ..)⟩

end

section
variable (c : Dev nD) (i : grid0.Coords) (arg2 : Memref sig .tc .vmem S1x256x3072 .bf16) (harg2 : arg2.IsWhole)
  (arg3 : Memref sig .tc .vmem S1x256x3072 .fp8e4m3) (harg3 : arg3.IsWhole) (arg4 : Memref sig .tc .vmem S1x256x24 .f32) (harg4 : arg4.IsWhole)
  (arg5 : Memref sig .tc .vmem S1x256x3072 .bf16) (harg5 : arg5.IsWhole) (arg6 : Memref sig .tc .vmem S32x3072 .f32) (harg6 : arg6.IsWhole)
  (arg7 : Memref sig .tc .vmem S32x3072 .f32) (harg7 : arg7.IsWhole)
  (x0 : Vec Ideal S1x256x3072 .bf16)

theorem run_pieces :
    View.PiecesOf (Val := Elt Ideal) (e := .fp8e4m3) (G3 x0) (kernelRun0_A (F := Ideal) c i arg2 harg2 arg3 harg3 arg4 harg4 arg5 harg5 arg6 harg6 arg7 harg7 x0).1
      ∧ View.PiecesOf (Val := Elt Ideal) (e := .f32) (G4 x0) (kernelRun0_A (F := Ideal) c i arg2 harg2 arg3 harg3 arg4 harg4 arg5 harg5 arg6 harg6 arg7 harg7 x0).2.1
      ∧ View.PiecesOf (Val := Elt Ideal) (e := .bf16) (G5 x0) (kernelRun0_A (F := Ideal) c i arg2 harg2 arg3 harg3 arg4 harg4 arg5 harg5 arg6 harg6 arg7 harg7 x0).2.2.1 := by
  have h := pb_pieces Variants.none c none i arg2 harg2 arg3 harg3 arg4 harg4 arg5 harg5 arg6 harg6 arg7 harg7 (harg2.unread x0) arg3.view.junk arg4.view.junk arg5.view.junk arg6.view.junk arg7.view.junk
    k0_t1_loop.trips le_rfl
  rw [harg2.read_unread] at h
  exact h

theorem out1 : out0_A_1 (F := Ideal) c i arg2 harg2 arg3 harg3 arg4 harg4 arg5 harg5 arg6 harg6 arg7 harg7 x0 = G3 x0 := by
  funext y
  unfold out0_A_1
  rw [View.read_writes_junk_eq_canon]
  exact View.canon_apply_of_pieces (G3 x0) _ (run_pieces c i arg2 harg2 arg3 harg3 arg4 harg4 arg5 harg5 arg6 harg6 arg7 harg7 x0).1.mem y
    (cover0_A_1 c i arg2 harg2 arg3 harg3 arg4 harg4 arg5 harg5 arg6 harg6 arg7 harg7 x0 y)

theorem out2 : out0_A_2 (F := Ideal) c i arg2 harg2 arg3 harg3 arg4 harg4 arg5 harg5 arg6 harg6 arg7 harg7 x0 = G4 x0 := by
  funext y
  unfold out0_A_2
  rw [View.read_writes_junk_eq_canon]
  exact View.canon_apply_of_pieces (G4 x0) _ (run_pieces c i arg2 harg2 arg3 harg3 arg4 harg4 arg5 harg5 arg6 harg6 arg7 harg7 x0).2.1.mem y
    (cover0_A_2 c i arg2 harg2 arg3 harg3 arg4 harg4 arg5 harg5 arg6 harg6 arg7 harg7 x0 y)

theorem out3 : out0_A_3 (F := Ideal) c i arg2 harg2 arg3 harg3 arg4 harg4 arg5 harg5 arg6 harg6 arg7 harg7 x0 = G5 x0 := by
  funext y
  unfold out0_A_3
  rw [View.read_writes_junk_eq_canon]
  exact View.canon_apply_of_pieces (G5 x0) _ (run_pieces c i arg2 harg2 arg3 harg3 arg4 harg4 arg5 harg5 arg6 harg6 arg7 harg7 x0).2.2.mem y
    (cover0_A_3 c i arg2 harg2 arg3 harg3 arg4 harg4 arg5 harg5 arg6 harg6 arg7 harg7 x0 y)

end

/-! ## The arrays -/

/-- What the arrays hold, from the argument `A`. -/
def T1 (A : S2x4096x3072.Idx → EReal) (y : S2x4096x3072.Idx) : EReal := code (fun q => A (ix3 (y 0) (y 1) q)) (y 2)
def T2 (A : S2x4096x3072.Idx → EReal) (y : S2x4096x24.Idx) : EReal := sc (am (fun q => A (ix3 (y 0) (y 1) q)) (y 2))
def T3 (A : S2x4096x3072.Idx → EReal) (y : S2x4096x3072.Idx) : EReal := hb (fun q => A (ix3 (y 0) (y 1) q)) (y 2)

variable (m : (ℓ : Loc nD τ sig) → Buf (Elt Ideal) ℓ)

/-- Every window's block index at every grid point: batch and row tile of the point. -/
theorem idx : ∀ t : Fin cfg0.N,
    win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0] :=
  (by decide +kernel : ∀ t : Fin grid0.N, _)

theorem final1 (c : Dev nD) : (dats m 0 c).arrAt 1 (cfgs 0).N = T1 (m ((c : Thread nD τ).loc main_arg0)) := by
  refine (dats m 0 c).arrAt_eq_of_covers 1 _ (by decide +kernel) fun t _ y => ?_
  blk_simp
  rw [after0_1]
  unfold outsAt0
  dsimp only
  rw [out1]
  idx_vars y
  unfold G3 T1
  blk_point [iblk, V, idx t]

theorem final2 (c : Dev nD) : (dats m 0 c).arrAt 2 (cfgs 0).N = T2 (m ((c : Thread nD τ).loc main_arg0)) := by
  refine (dats m 0 c).arrAt_eq_of_covers 2 _ (by decide +kernel) fun t _ y => ?_
  blk_simp
  rw [after0_2]
  unfold outsAt0
  dsimp only
  rw [out2]
  idx_vars y
  unfold G4 T2
  blk_point [iblk, V, idx t]

theorem final3 (c : Dev nD) : (dats m 0 c).arrAt 3 (cfgs 0).N = T3 (m ((c : Thread nD τ).loc main_arg0)) := by
  refine (dats m 0 c).arrAt_eq_of_covers 3 _ (by decide +kernel) fun t _ y => ?_
  blk_simp
  rw [after0_3]
  unfold outsAt0
  dsimp only
  rw [out3]
  idx_vars y
  unfold G5 T3
  refine congrArg₂ hb (funext fun q => ?_) ?_
  · blk_point [iblk, V, idx t]
  · apply Fin.ext; blk_simp [idx t]

/-- The kernel's run: its three arrays are those of its argument, which is unchanged. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v0_0) = T1 (m ((c.tc : Thread nD τ).loc main_arg0))
    ∧ r.2.mem ((c.tc : Thread nD τ).loc main_v0_1) = T2 (m ((c.tc : Thread nD τ).loc main_arg0))
    ∧ r.2.mem ((c.tc : Thread nD τ).loc main_v0_2) = T3 (m ((c.tc : Thread nD τ).loc main_arg0))
    ∧ r.2.mem ((c.tc : Thread nD τ).loc main_arg0) = m ((c.tc : Thread nD τ).loc main_arg0)) :=
  (θ_run defs _ _).mono (fun r h c => ⟨((h c).1 1).trans (final1 m c), ((h c).1 2).trans (final2 m c), ((h c).1 3).trans (final3 m c),
    ((h c).1 0).trans (((dats m 0 c).arrAt_in 0 rfl _).trans ((A_eq m c 0).trans (V_main_arg0 m c)))⟩) (run_main m ρ)

end Cert.ActIdeal.ActValue

end
-- ==== Proof.ActRef.lean ====
/-
The reference's three arrays after its run, each the function of the argument that the kernel's are.
-/
module

public import proofs.«01_k».proof.Proof.ActValue
public import proofs.«01_k».proof.Proof.Gen.ActReferenceIdeal.Frame
public import Idealize.ShloMosaic.Lib.Pipeline.ValueKit

@[expose] public section

set_option maxRecDepth 16384

noncomputable section

namespace Cert.ActReferenceIdeal.ActValue

open Idealize.ShloMosaic Idealize.ShloMosaic.TcCoe Idealize.ShloMosaic.Tactic Idealize.SL.Sem
open Idealize.ShloMosaic.Pipeline (Dat)
open Cert.ActReferenceIdeal Cert.ActReferenceIdeal.Gen
open Cert.ActIdeal.ActValue (mean dev rstd hh am ex sc iv code hb T1 T2 T3)

variable (A : Vec Ideal S2x4096x3072 .bf16)

/-- The row of the argument that an entry is computed from. -/
abbrev xrow (b : Fin 2) (r : Fin 4096) (q : Fin 3072) : EReal := A (ix3 b r q)

/-- The normalized activation, its last axis cut into blocks of 128. -/
theorem pay5_at (b : Fin 2) (r : Fin 4096) (j : Fin 24) (l : Fin 128) :
    k0_pay5 A (ix4 b r j l) = hh (xrow A b r) ⟨128 * j + l, by omega⟩ := by
  pointwise [k0_pay5]
  have e : (⟨j.val * 128 + l.val, by omega⟩ : Fin 3072) = ⟨128 * j + l, by omega⟩ := Fin.ext (by show j.val * 128 + l.val = 128 * j.val + l.val; omega)
  rw [e]
  unfold hh rstd dev mean
  with_reducible rfl

/-- A block's exponent, from its largest magnitude. -/
def E (a : EReal) : EReal := if a = 0 then 0 else ex a

/-- The largest magnitude of each block. -/
def PA (v18 : FVec Ideal S2x4096x24x128 .f32) : FVec Ideal S2x4096x24 .f32 :=
  have v19 : FVec Ideal S2x4096x24x128 .f32 := absf v18
  have v20 : FVec Ideal S2x4096x24 .f32 := multiReduction .maximumf [3] S2x4096x24 v19 0xFF800000#32 reduces_S2x4096x24x128_S2x4096x24 (.inl rfl) rfl
  v20

/-- The exponents, from the largest magnitudes. -/
def PE (v20 : FVec Ideal S2x4096x24 .f32) : FVec Ideal S2x4096x24x1 .f32 :=
  have v21 : FVec Ideal S2x4096x24x1 .f32 := shapeCast S2x4096x24x1 v20 shapeCasts_S2x4096x24_S2x4096x24x1
  have cst_7 : Ideal .f32 := Scalar.ofBits .f32 0x3B124925#32
  have v22 : FVec Ideal S2x4096x24x1 .f32 := broadcast S2x4096x24x1 cst_7
  have v23 : FVec Ideal S2x4096x24x1 .f32 := mulf v21 v22
  have v24 : FVec Ideal S2x4096x24x1 .f32 := log v23
  have cst_8 : Ideal .f32 := Scalar.ofBits .f32 0x3F317218#32
  have v25 : FVec Ideal S2x4096x24x1 .f32 := broadcast S2x4096x24x1 cst_8
  have v26 : FVec Ideal S2x4096x24x1 .f32 := divf v24 v25
  have v27 : FVec Ideal S2x4096x24x1 .f32 := floor v26
  have cst_9 : Ideal .f32 := Scalar.ofBits .f32 0x3F800000#32
  have v28 : FVec Ideal S2x4096x24x1 .f32 := broadcast S2x4096x24x1 cst_9
  have v29 : FVec Ideal S2x4096x24x1 .f32 := addf v27 v28
  have cst_10 : Ideal .f32 := Scalar.ofBits .f32 0x00000000#32
  have v30 : FVec Ideal S2x4096x24x1 .f32 := broadcast S2x4096x24x1 cst_10
  have v31 : IVec S2x4096x24x1 1 := cmpf .oeq v21 v30
  have v32 : Ideal .f32 := Scalar.sitofp .f32 0#32
  have v33 : FVec Ideal S2x4096x24x1 .f32 := broadcast S2x4096x24x1 v32
  have v34 : FVec Ideal S2x4096x24x1 .f32 := select v31 v33 v29
  v34

theorem PA_at (v : FVec Ideal S2x4096x24x128 .f32) (b : Fin 2) (r : Fin 4096) (j : Fin 24) :
    PA v (ix3 b r j)
      = Finset.univ.fold max (Ideal.ofBits .f32 0xFF800000#32) fun l : Fin 128 => FloatOps.absf (F := Ideal) (φ := .f32) (v (ix4 b r j l)) := by
  pointwise [PA]

theorem PE_at (v : FVec Ideal S2x4096x24 .f32) (b : Fin 2) (r : Fin 4096) (j : Fin 24) :
    PE v (ix4 (n3 := 1) b r j 0) = E (v (ix3 b r j)) := by
  pointwise [PE]
  have h0 : (((0#32).toInt : ℝ) : EReal) = 0 := by simp
  unfold E ex
  rw [h0]

/-- The reference's scaled activations, kept from below, from the normalized activation and the exponents. -/
def P7 (v18 : FVec Ideal S2x4096x24x128 .f32) (v34 : FVec Ideal S2x4096x24x1 .f32) : FVec Ideal S2x4096x24x128 .f32 :=
  have cst_11 : Ideal .f32 := Scalar.ofBits .f32 0x00000000#32
  have v35 : FVec Ideal S2x4096x24x1 .f32 := broadcast S2x4096x24x1 cst_11
  have v36 : FVec Ideal S2x4096x24x1 .f32 := subf v35 v34
  have v37 : FVec Ideal S2x4096x24x1 .f32 := exp2 v36
  have v38 : FVec Ideal S2x4096x24x128 .f32 := broadcastTo S2x4096x24x128 v37 broadcasts_S2x4096x24x1_S2x4096x24x128
  have v39 : FVec Ideal S2x4096x24x128 .f32 := mulf v18 v38
  have cst_12 : Ideal .f32 := Scalar.ofBits .f32 0xC3E00000#32
  have v40 : FVec Ideal S2x4096x24x128 .f32 := broadcast S2x4096x24x128 cst_12
  have v41 : FVec Ideal S2x4096x24x128 .f32 := maximumf v40 v39
  v41

theorem pay6_eq : k0_pay6 A = PE (PA (k0_pay5 A)) := rfl
theorem pay7_eq : k0_pay7 A = P7 (k0_pay5 A) (k0_pay6 A) := rfl

theorem pay6_at (b : Fin 2) (r : Fin 4096) (j : Fin 24) : k0_pay6 A (ix4 (n3 := 1) b r j 0) = E (am (xrow A b r) j) := by
  rw [pay6_eq, PE_at, PA_at]
  unfold am
  simp only [pay5_at]

theorem P7_at (v : FVec Ideal S2x4096x24x128 .f32) (w : FVec Ideal S2x4096x24x1 .f32) (b : Fin 2) (r : Fin 4096) (j : Fin 24) (l : Fin 128) :
    P7 v w (ix4 b r j l) = max (Ideal.ofBits .f32 0xC3E00000#32)
      (v (ix4 b r j l) * FloatOps.exp2 (F := Ideal) (φ := .f32) (0 - w (ix4 (n3 := 1) b r j 0))) := by
  pointwise [P7]

theorem pay2_at (v : FVec Ideal S2x4096x24x1 .f32) (b : Fin 2) (r : Fin 4096) (j : Fin 24) :
    k0_pay2 v (ix3 b r j) = FloatOps.exp2 (F := Ideal) (φ := .f32) (v (ix4 (n3 := 1) b r j 0)) := by
  pointwise [k0_pay2]

theorem pay3_at (v41 v42 : FVec Ideal S2x4096x24x128 .f32) (b : Fin 2) (r : Fin 4096) (q : Fin 3072) :
    k0_pay3 v41 v42 (ix3 b r q) = min (v42 (ix4 b r ⟨q / 128, by omega⟩ ⟨q % 128, by omega⟩)) (v41 (ix4 b r ⟨q / 128, by omega⟩ ⟨q % 128, by omega⟩)) := by
  pointwise [k0_pay3, k0_pay1]

theorem pay4_at (v34 : FVec Ideal S2x4096x24x1 .f32) (v41 v42 : FVec Ideal S2x4096x24x128 .f32) (b : Fin 2) (r : Fin 4096) (q : Fin 3072) :
    k0_pay4 v34 v41 v42 (ix3 b r q) = min (v42 (ix4 b r ⟨q / 128, by omega⟩ ⟨q % 128, by omega⟩)) (v41 (ix4 b r ⟨q / 128, by omega⟩ ⟨q % 128, by omega⟩))
      * FloatOps.exp2 (F := Ideal) (φ := .f32) (v34 (ix4 (n3 := 1) b r ⟨q / 128, by omega⟩ 0)) := by
  pointwise [k0_pay4, k0_pay1, pay2_at]

/-! The kernel tests the scaled magnitude for zero, the reference the magnitude; a block of zeros has exponent 0. -/

theorem C_ne : Ideal.ofBits .f32 0x3B124925#32 ≠ 0 := by
  simp [Ideal.ofBits, Ideal.ieee]

theorem mul_C (a : EReal) : a * Ideal.ofBits .f32 0x3B124925#32 = 0 ↔ a = 0 := by
  rw [mul_eq_zero]; exact or_iff_left C_ne

theorem exp2_zero : FloatOps.exp2 (F := Ideal) (φ := .f32) (0 : EReal) = 1 := by
  show ((Real.rpow 2 0 : ℝ) : EReal) = 1
  simp

theorem sc_eq (a : EReal) : sc a = FloatOps.exp2 (F := Ideal) (φ := .f32) (E a) := by
  unfold sc E
  simp only [mul_C]
  split
  · exact exp2_zero.symm
  · rfl

theorem iv_eq (a : EReal) : iv a = FloatOps.exp2 (F := Ideal) (φ := .f32) (0 - E a) := by
  unfold iv E
  simp only [mul_C]
  split
  · rw [sub_zero]; exact exp2_zero.symm
  · rfl

/-! ## The payloads of the three stores -/

theorem pay8_at (i : S2x4096x24x128.Idx) : k0_pay8 (F := Ideal) i = Ideal.ofBits .f32 0x43E00000#32 := rfl

theorem hh_at (x : Fin 3072 → EReal) (q : Fin 3072)
    (h : 128 * (⟨q / 128, by omega⟩ : Fin 24).val + (⟨q % 128, by omega⟩ : Fin 128).val < 3072) :
    hh x ⟨128 * (⟨q / 128, by omega⟩ : Fin 24).val + (⟨q % 128, by omega⟩ : Fin 128).val, h⟩ = hh x q :=
  congrArg (hh x) (Fin.ext (Nat.div_add_mod _ _))

theorem code_at (b : Fin 2) (r : Fin 4096) (q : Fin 3072) :
    min (k0_pay8 (F := Ideal) (ix4 b r ⟨q / 128, by omega⟩ ⟨q % 128, by omega⟩)) (k0_pay7 A (ix4 b r ⟨q / 128, by omega⟩ ⟨q % 128, by omega⟩))
      = code (xrow A b r) q := by
  rw [pay8_at, pay7_eq, P7_at, pay5_at, pay6_at, hh_at]
  unfold code
  rw [iv_eq]

theorem store1 : k0_pay3 (k0_pay7 A) k0_pay8 = T1 A := by
  funext y
  idx_vars y
  rw [pay3_at, code_at]
  rfl

theorem store2 : k0_pay2 (k0_pay6 A) = T2 A := by
  funext y
  idx_vars y
  rw [pay2_at, pay6_at, ← sc_eq]
  rfl

theorem store3 : k0_pay4 (k0_pay6 A) (k0_pay7 A) k0_pay8 = T3 A := by
  funext y
  idx_vars y
  rw [pay4_at, code_at, pay6_at, ← sc_eq]
  show _ = hb (xrow A y0 y1) y2
  unfold hb
  with_reducible rfl

/-! ## The arrays -/

variable (m : (ℓ : Loc nD τ sig) → Buf (Elt Ideal) ℓ)

/-- The one point's blocks are the arrays. -/
theorem idx : ∀ t : Fin cfg0.N,
    win0_0.index t = ![0, 0, 0] ∧ win0_1.index t = ![0, 0, 0] ∧ win0_2.index t = ![0, 0, 0] ∧ win0_3.index t = ![0, 0, 0] :=
  (by decide +kernel : ∀ t : Fin grid0.N, _)

theorem ld_whole (x : Vec Ideal S2x4096x3072 .bf16) : View.ld x r0_0 = x := by
  frame_out

theorem final1 (c : Dev nD) : (dats m 0 c).arrAt 1 (cfgs 0).N = T1 (m ((c : Thread nD τ).loc main_arg0)) := by
  refine (dats m 0 c).arrAt_eq_of_covers 1 _ (by decide +kernel) fun t _ y => ?_
  blk_simp
  rw [after0_1]
  frame_out
  unfold k0_pay10 k0_pay11
  rw [ld_whole, store1]
  idx_vars y
  unfold T1
  blk_point [iblk, V, idx t]

theorem final2 (c : Dev nD) : (dats m 0 c).arrAt 2 (cfgs 0).N = T2 (m ((c : Thread nD τ).loc main_arg0)) := by
  refine (dats m 0 c).arrAt_eq_of_covers 2 _ (by decide +kernel) fun t _ y => ?_
  blk_simp
  rw [after0_2]
  frame_out
  unfold k0_pay9
  rw [ld_whole, store2]
  idx_vars y
  unfold T2
  blk_point [iblk, V, idx t]

theorem final3 (c : Dev nD) : (dats m 0 c).arrAt 3 (cfgs 0).N = T3 (m ((c : Thread nD τ).loc main_arg0)) := by
  refine (dats m 0 c).arrAt_eq_of_covers 3 _ (by decide +kernel) fun t _ y => ?_
  blk_simp
  rw [after0_3]
  frame_out
  unfold k0_pay9 k0_pay10 k0_pay11
  rw [ld_whole, store3]
  idx_vars y
  unfold T3
  refine congrArg₂ hb (funext fun q => ?_) ?_
  · blk_point [iblk, V, idx t]
  · apply Fin.ext; blk_simp [idx t]

/-- The reference's run: its three arrays are those of its argument, which is unchanged. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v0_0) = T1 (m ((c.tc : Thread nD τ).loc main_arg0))
    ∧ r.2.mem ((c.tc : Thread nD τ).loc main_v0_1) = T2 (m ((c.tc : Thread nD τ).loc main_arg0))
    ∧ r.2.mem ((c.tc : Thread nD τ).loc main_v0_2) = T3 (m ((c.tc : Thread nD τ).loc main_arg0))
    ∧ r.2.mem ((c.tc : Thread nD τ).loc main_arg0) = m ((c.tc : Thread nD τ).loc main_arg0)) :=
  (θ_run defs _ _).mono (fun r h c => ⟨((h c).1 1).trans (final1 m c), ((h c).1 2).trans (final2 m c), ((h c).1 3).trans (final3 m c),
    ((h c).1 0).trans (((dats m 0 c).arrAt_in 0 rfl _).trans ((A_eq m c 0).trans (V_main_arg0 m c)))⟩) (run_main m ρ)

end Cert.ActReferenceIdeal.ActValue

end
-- ==== Proof.WeightRunBits.lean ====
/-
The whole-body run of the weight kernel, with the pieces its loop leaves named. A trip reads back the scales' block only: its other
stores, and what it carries on, do not depend on what the written buffers held before (`st_indep`).
-/
module

public import proofs.«01_k».proof.Proof.Gen.Weight.Frame.Runs

@[expose] public section

set_option maxRecDepth 16384

noncomputable section

namespace Cert.Weight.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (𝒱 : Variants) (c : Dev nD) (bd : Option 𝒱.V) (i : grid0.Coords) (arg2 : Memref sig .tc .vmem S3072x512 .fp8e4m3) (harg2 : arg2.IsWhole)
  (arg3 : Memref sig .tc .smem S24x72 .f32) (harg3 : arg3.IsWhole) (arg4 : Memref sig .tc .vmem S1x3072x128 .f32) (harg4 : arg4.IsWhole)
  (arg5 : Memref sig .tc .vmem S1x3072x128 .f32) (harg5 : arg5.IsWhole) (arg6 : Memref sig .tc .vmem S1x512 .f32) (harg6 : arg6.IsWhole)
  (arg7 : Memref sig .tc .vmem S1x3072x512 .fp8e4m3) (harg7 : arg7.IsWhole) (arg8 : Memref sig .tc .vmem S1x24x128 .f32) (harg8 : arg8.IsWhole)
  (arg9 : Memref sig .tc .vmem S1x3072x512 .bf16) (harg9 : arg9.IsWhole) (arg10 : Memref sig .tc .vmem S1x1x512 .f32) (harg10 : arg10.IsWhole)

section
variable (arg1 : BitVec 32) (v0 v1 : IVec S24x128 32) (X2 : BufTy.Contents (Elt F) arg2.view.ty) (X3 : BufTy.Contents (Elt F) arg3.view.ty)
  (X4 : BufTy.Contents (Elt F) arg4.view.ty) (X5 : BufTy.Contents (Elt F) arg5.view.ty)
  (f7 g7 : BufTy.Contents (Elt F) arg7.view.ty) (f8 : BufTy.Contents (Elt F) arg8.view.ty) (f9 g9 : BufTy.Contents (Elt F) arg9.view.ty)

theorem tripR_indep (k : Fin k0_t1_loop.trips) (acc : FVec F S8x128 .f32 × FVec F S8x128 .f32 × FVec F S8x128 .f32 × FVec F S8x128 .f32) (g8 : BufTy.Contents (Elt F) arg8.view.ty) :
    tripR_k0_t1 𝒱 c bd i arg2 harg2 arg3 harg3 arg4 harg4 arg5 harg5 arg6 harg6 arg7 harg7 arg8 harg8 arg9 harg9 arg10 harg10 arg1 v0 v1 X2 X3 X4 X5 k acc f7 f8 f9
      = tripR_k0_t1 𝒱 c bd i arg2 harg2 arg3 harg3 arg4 harg4 arg5 harg5 arg6 harg6 arg7 harg7 arg8 harg8 arg9 harg9 arg10 harg10 arg1 v0 v1 X2 X3 X4 X5 k acc g7 g8 g9 := by
  unfold tripR_k0_t1 trip_k0_t1
  rfl

/-- A trip's pieces are the same whatever the codes' and the dequantised weights' buffers held before. -/
theorem tripL_indep (k : Fin k0_t1_loop.trips) (acc : FVec F S8x128 .f32 × FVec F S8x128 .f32 × FVec F S8x128 .f32 × FVec F S8x128 .f32) :
    tripL_k0_t1 𝒱 c bd i arg2 harg2 arg3 harg3 arg4 harg4 arg5 harg5 arg6 harg6 arg7 harg7 arg8 harg8 arg9 harg9 arg10 harg10 arg1 v0 v1 X2 X3 X4 X5 k acc f7 f8 f9
      = tripL_k0_t1 𝒱 c bd i arg2 harg2 arg3 harg3 arg4 harg4 arg5 harg5 arg6 harg6 arg7 harg7 arg8 harg8 arg9 harg9 arg10 harg10 arg1 v0 v1 X2 X3 X4 X5 k acc g7 f8 g9 := by
  unfold tripL_k0_t1 trip_k0_t1
  rfl

/-- So is the state before trip `n`. -/
theorem st_indep (init : FVec F S8x128 .f32 × FVec F S8x128 .f32 × FVec F S8x128 .f32 × FVec F S8x128 .f32) (n : ℕ) (hn : n ≤ k0_t1_loop.trips) :
    st_k0_t1 𝒱 c bd i arg2 harg2 arg3 harg3 arg4 harg4 arg5 harg5 arg6 harg6 arg7 harg7 arg8 harg8 arg9 harg9 arg10 harg10 arg1 v0 v1 X2 X3 X4 X5 f7 f8 f9 init n
      = st_k0_t1 𝒱 c bd i arg2 harg2 arg3 harg3 arg4 harg4 arg5 harg5 arg6 harg6 arg7 harg7 arg8 harg8 arg9 harg9 arg10 harg10 arg1 v0 v1 X2 X3 X4 X5 g7 f8 g9 init n := by
  induction n with
  | zero => rfl
  | succ n ih =>
    rw [st_k0_t1_succ 𝒱 c bd i arg2 harg2 arg3 harg3 arg4 harg4 arg5 harg5 arg6 harg6 arg7 harg7 arg8 harg8 arg9 harg9 arg10 harg10 arg1 v0 v1 X2 X3 X4 X5 f7 f8 f9 init ⟨n, hn⟩,
      st_k0_t1_succ 𝒱 c bd i arg2 harg2 arg3 harg3 arg4 harg4 arg5 harg5 arg6 harg6 arg7 harg7 arg8 harg8 arg9 harg9 arg10 harg10 arg1 v0 v1 X2 X3 X4 X5 g7 f8 g9 init ⟨n, hn⟩]
    rw [ih (by omega)]
    generalize st_k0_t1 𝒱 c bd i arg2 harg2 arg3 harg3 arg4 harg4 arg5 harg5 arg6 harg6 arg7 harg7 arg8 harg8 arg9 harg9 arg10 harg10 arg1 v0 v1 X2 X3 X4 X5 g7 f8 g9 init n = P
    have hR := tripR_indep 𝒱 c bd i arg2 harg2 arg3 harg3 arg4 harg4 arg5 harg5 arg6 harg6 arg7 harg7 arg8 harg8 arg9 harg9 arg10 harg10 arg1 v0 v1 X2 X3 X4 X5
      (arg7.view.writes (Elt F) f7 P.2.1) (arg7.view.writes (Elt F) g7 P.2.1) (arg8.view.writes (Elt F) f8 P.2.2.1)
      (arg9.view.writes (Elt F) f9 P.2.2.2) (arg9.view.writes (Elt F) g9 P.2.2.2) ⟨n, hn⟩ P.1 (arg8.view.writes (Elt F) f8 P.2.2.1)
    have hL := tripL_indep 𝒱 c bd i arg2 harg2 arg3 harg3 arg4 harg4 arg5 harg5 arg6 harg6 arg7 harg7 arg8 harg8 arg9 harg9 arg10 harg10 arg1 v0 v1 X2 X3 X4 X5
      (arg7.view.writes (Elt F) f7 P.2.1) (arg7.view.writes (Elt F) g7 P.2.1) (arg8.view.writes (Elt F) f8 P.2.2.1)
      (arg9.view.writes (Elt F) f9 P.2.2.2) (arg9.view.writes (Elt F) g9 P.2.2.2) ⟨n, hn⟩ P.1
    exact congrArg₂ (fun (R : FVec F S8x128 .f32 × FVec F S8x128 .f32 × FVec F S8x128 .f32 × FVec F S8x128 .f32) (T : List _ × List _ × List _) =>
        (R, T.1 ++ P.2.1, T.2.1 ++ P.2.2.1, T.2.2 ++ P.2.2.2)) hR hL

end

/-- What the loop carries at its end and the pieces it leaves, over the scales' block at `x6`. -/
def loopS (x0 : Vec F S3072x512 .fp8e4m3) (x1 : Vec F S24x72 .f32) (x2 : Vec F S1x3072x128 .f32) (x3 : Vec F S1x3072x128 .f32) (x6 : Vec F S1x24x128 .f32) :
    (FVec F S8x128 .f32 × FVec F S8x128 .f32 × FVec F S8x128 .f32 × FVec F S8x128 .f32) × List (View.Piece (Elt F) S1x3072x512 .fp8e4m3)
      × List (View.Piece (Elt F) S1x24x128 .f32) × List (View.Piece (Elt F) S1x3072x512 .bf16) :=
  st_k0_t1 𝒱 c bd i arg2 harg2 arg3 harg3 arg4 harg4 arg5 harg5 arg6 harg6 arg7 harg7 arg8 harg8 arg9 harg9 arg10 harg10
    (BitVec.ofNat 32 (i 1).val) (iota .tc S24x128 32 [0] iota_S24x128_d0_w32) (iota .tc S24x128 32 [1] iota_S24x128_d1_w32)
    (harg2.unread x0) (harg3.unread x1) (harg4.unread x2) (harg5.unread x3) arg7.view.junk (harg8.unread x6) arg9.view.junk
    (k0_pay54, k0_pay55, k0_pay56, k0_pay57) k0_t1_loop.trips

theorem st_eq_loopS (x0 : Vec F S3072x512 .fp8e4m3) (x1 : Vec F S24x72 .f32) (x2 : Vec F S1x3072x128 .f32) (x3 : Vec F S1x3072x128 .f32) (x6 : Vec F S1x24x128 .f32) (f7 : BufTy.Contents (Elt F) arg7.view.ty)
    (f9 : BufTy.Contents (Elt F) arg9.view.ty) :
    st_k0_t1 𝒱 c bd i arg2 harg2 arg3 harg3 arg4 harg4 arg5 harg5 arg6 harg6 arg7 harg7 arg8 harg8 arg9 harg9 arg10 harg10
        (BitVec.ofNat 32 (i 1).val) (iota .tc S24x128 32 [0] iota_S24x128_d0_w32) (iota .tc S24x128 32 [1] iota_S24x128_d1_w32)
        (harg2.unread x0) (harg3.unread x1) (harg4.unread x2) (harg5.unread x3) f7 (harg8.unread x6) f9
        (k0_pay54, k0_pay55, k0_pay56, k0_pay57) (Scf.trips k0_t1_loop.lb k0_t1_loop.ub k0_t1_loop.st)
      = loopS 𝒱 c bd i arg2 harg2 arg3 harg3 arg4 harg4 arg5 harg5 arg6 harg6 arg7 harg7 arg8 harg8 arg9 harg9 arg10 harg10 x0 x1 x2 x3 x6 :=
  st_indep 𝒱 c bd i arg2 harg2 arg3 harg3 arg4 harg4 arg5 harg5 arg6 harg6 arg7 harg7 arg8 harg8 arg9 harg9 arg10 harg10 _ _ _ _ _ _ _ _ _ _ _ _ _ _ le_rfl

end

section
variable (arg6 : Memref sig .tc .vmem S1x512 .f32) (harg6 : arg6.IsWhole) (arg8 : Memref sig .tc .vmem S1x24x128 .f32) (harg8 : arg8.IsWhole)

/-- The pieces of the column biases' block: four column sums of what the loop carries, plus the bias. -/
def cL (acc : FVec F S8x128 .f32 × FVec F S8x128 .f32 × FVec F S8x128 .f32 × FVec F S8x128 .f32) (x4 : Vec F S1x512 .f32) : List (View.Piece (Elt F) S1x1x512 .f32) :=
  [⟨Rect.unit ![0, 0, 384] ![1, 1, 128] inb_S1x1x512_S1x1x128_0_0_384,
      k0_pay2 acc.2.2.2 (View.readAt (Elt F) arg6.view (Rect.unit (s := S1x512) ![0, 384] ![1, 128] inb_S1x512_S1x128_0_384).toLoadRect (harg6.unread x4))⟩,
    ⟨Rect.unit ![0, 0, 256] ![1, 1, 128] inb_S1x1x512_S1x1x128_0_0_256,
      k0_pay1 (k0_pay61 acc.2.2.1) (View.readAt (Elt F) arg6.view (Rect.unit (s := S1x512) ![0, 256] S1x128.size inb_S1x512_S1x128_0_256).toLoadRect (harg6.unread x4))⟩,
    ⟨Rect.unit ![0, 0, 128] S1x1x128.size inb_S1x1x512_S1x1x128_0_0_128,
      k0_pay60 acc.2.1 (View.readAt (Elt F) arg6.view (Rect.unit (s := S1x512) ![0, 128] S1x128.size inb_S1x512_S1x128_0_128).toLoadRect (harg6.unread x4))⟩,
    ⟨Rect.unit ![0, 0, 0] S1x1x128.size inb_S1x1x512_S1x1x128_0_0_0,
      k0_pay59 acc.1 (View.readAt (Elt F) arg6.view (Rect.unit (s := S1x512) ![0, 0] S1x128.size inb_S1x512_S1x128_0_0).toLoadRect (harg6.unread x4))⟩]

/-- The scales' buffer after the zeroing store holds zeros. -/
theorem zeroed (L : List (View.Piece (Elt F) S1x24x128 .f32)) (w : Vec F S1x24x128 .f32)
    (h : L = [⟨Rect.unit ![0, 0, 0] S1x24x128.size inb_S1x24x128_S1x24x128_0_0_0, w⟩]) :
    arg8.view.writes (Elt F) arg8.view.junk L = harg8.unread w := by
  refine harg8.eq_unread (funext fun y => ?_)
  subst h
  refine View.read_writes_cons_hit_of_coords (s := S1x24x128) arg8.view arg8.view.junk (Rect.unit ![0, 0, 0] S1x24x128.size inb_S1x24x128_S1x24x128_0_0_0)
    w [] y y fun a => ?_
  match a with
  | ⟨0, _⟩ => exact ((Nat.zero_add _).trans (Nat.one_mul _)).symm
  | ⟨1, _⟩ => exact ((Nat.zero_add _).trans (Nat.one_mul _)).symm
  | ⟨2, _⟩ => exact ((Nat.zero_add _).trans (Nat.one_mul _)).symm

end

set_option maxHeartbeats 1000000 in
/-- The body's run at the first tile of a batch element: the scales are zeroed first. -/
theorem kernelRun0_A (c : Dev nD) (i : grid0.Coords) (arg2 : Memref sig .tc .vmem S3072x512 .fp8e4m3) (harg2 : arg2.IsWhole)
  (arg3 : Memref sig .tc .smem S24x72 .f32) (harg3 : arg3.IsWhole) (arg4 : Memref sig .tc .vmem S1x3072x128 .f32) (harg4 : arg4.IsWhole)
  (arg5 : Memref sig .tc .vmem S1x3072x128 .f32) (harg5 : arg5.IsWhole) (arg6 : Memref sig .tc .vmem S1x512 .f32) (harg6 : arg6.IsWhole)
  (arg7 : Memref sig .tc .vmem S1x3072x512 .fp8e4m3) (harg7 : arg7.IsWhole) (arg8 : Memref sig .tc .vmem S1x24x128 .f32) (harg8 : arg8.IsWhole)
  (arg9 : Memref sig .tc .vmem S1x3072x512 .bf16) (harg9 : arg9.IsWhole) (arg10 : Memref sig .tc .vmem S1x1x512 .f32) (harg10 : arg10.IsWhole) (hc0 : cond0_0 i)
    (x0 : Vec F S3072x512 .fp8e4m3) (x1 : Vec F S24x72 .f32) (x2 : Vec F S1x3072x128 .f32) (x3 : Vec F S1x3072x128 .f32) (x4 : Vec F S1x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f (loopS Variants.none c none i arg2 harg2 arg3 harg3 arg4 harg4 arg5 harg5 arg6 harg6 arg7 harg7 arg8 harg8 arg9 harg9 arg10 harg10 x0 x1 x2 x3 k0_pay53).2.1) ∗ (∃ f, arg8.view.loc (c : Thread nD τ) ↦[arg8.view.set]{fullShare} arg8.view.writes (Elt F) f (loopS Variants.none c none i arg2 harg2 arg3 harg3 arg4 harg4 arg5 harg5 arg6 harg6 arg7 harg7 arg8 harg8 arg9 harg9 arg10 harg10 x0 x1 x2 x3 k0_pay53).2.2.1) ∗ (∃ f, arg9.view.loc (c : Thread nD τ) ↦[arg9.view.set]{fullShare} arg9.view.writes (Elt F) f (loopS Variants.none c none i arg2 harg2 arg3 harg3 arg4 harg4 arg5 harg5 arg6 harg6 arg7 harg7 arg8 harg8 arg9 harg9 arg10 harg10 x0 x1 x2 x3 k0_pay53).2.2.2) ∗ (∃ f, arg10.view.loc (c : Thread nD τ) ↦[arg10.view.set]{fullShare} arg10.view.writes (Elt F) f (cL arg6 harg6 (loopS Variants.none c none i arg2 harg2 arg3 harg3 arg4 harg4 arg5 harg5 arg6 harg6 arg7 harg7 arg8 harg8 arg9 harg9 arg10 harg10 x0 x1 x2 x3 k0_pay53).1 x4))) -∗ K ⟨⟩))
      ⊢ wp frame (wpE (defs₀ (F := F)) Variants.none c none) E (cc0_weight i arg2 harg2 arg3 harg3 arg4 harg4 arg5 harg5 arg6 harg6 arg7 harg7 arg8 harg8 arg9 harg9 arg10 harg10) K := by
  simp only [cc0_weight_eq_skeleton]; unfold cc0_weight_skel
  simp only [k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0)
  sl_step
  unfold kernelRun0_A.sl.r_2 kernelRun0_A.sl.r_1 kernelRun0_A.sl.r kernelRun0_A.sl.v0 kernelRun0_A.sl.v1
  rw [View.writes_append, zeroed arg8 harg8 kernelRun0_A.sl.H6_1 k0_pay53 rfl]
  rw [st_eq_loopS]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]; · iexists _; iexact H5
  isplitl [H6]; · iexists _; iexact H6
  isplitl [H7]; · iexists _; iexact H7
  iexists _; unfold cL; iexact H8

set_option maxHeartbeats 1000000 in
/-- The body's run at any later tile of a batch element, over the scales as the tile before left them. -/
theorem kernelRun0_B (c : Dev nD) (i : grid0.Coords) (arg2 : Memref sig .tc .vmem S3072x512 .fp8e4m3) (harg2 : arg2.IsWhole)
  (arg3 : Memref sig .tc .smem S24x72 .f32) (harg3 : arg3.IsWhole) (arg4 : Memref sig .tc .vmem S1x3072x128 .f32) (harg4 : arg4.IsWhole)
  (arg5 : Memref sig .tc .vmem S1x3072x128 .f32) (harg5 : arg5.IsWhole) (arg6 : Memref sig .tc .vmem S1x512 .f32) (harg6 : arg6.IsWhole)
  (arg7 : Memref sig .tc .vmem S1x3072x512 .fp8e4m3) (harg7 : arg7.IsWhole) (arg8 : Memref sig .tc .vmem S1x24x128 .f32) (harg8 : arg8.IsWhole)
  (arg9 : Memref sig .tc .vmem S1x3072x512 .bf16) (harg9 : arg9.IsWhole) (arg10 : Memref sig .tc .vmem S1x1x512 .f32) (harg10 : arg10.IsWhole) (hc0 : ¬cond0_0 i)
    (x0 : Vec F S3072x512 .fp8e4m3) (x1 : Vec F S24x72 .f32) (x2 : Vec F S1x3072x128 .f32) (x3 : Vec F S1x3072x128 .f32) (x4 : Vec F S1x512 .f32) (xo6 : Vec F S1x24x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xo6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f (loopS Variants.none c none i arg2 harg2 arg3 harg3 arg4 harg4 arg5 harg5 arg6 harg6 arg7 harg7 arg8 harg8 arg9 harg9 arg10 harg10 x0 x1 x2 x3 xo6).2.1) ∗ (∃ f, arg8.view.loc (c : Thread nD τ) ↦[arg8.view.set]{fullShare} arg8.view.writes (Elt F) f (loopS Variants.none c none i arg2 harg2 arg3 harg3 arg4 harg4 arg5 harg5 arg6 harg6 arg7 harg7 arg8 harg8 arg9 harg9 arg10 harg10 x0 x1 x2 x3 xo6).2.2.1) ∗ (∃ f, arg9.view.loc (c : Thread nD τ) ↦[arg9.view.set]{fullShare} arg9.view.writes (Elt F) f (loopS Variants.none c none i arg2 harg2 arg3 harg3 arg4 harg4 arg5 harg5 arg6 harg6 arg7 harg7 arg8 harg8 arg9 harg9 arg10 harg10 x0 x1 x2 x3 xo6).2.2.2) ∗ (∃ f, arg10.view.loc (c : Thread nD τ) ↦[arg10.view.set]{fullShare} arg10.view.writes (Elt F) f (cL arg6 harg6 (loopS Variants.none c none i arg2 harg2 arg3 harg3 arg4 harg4 arg5 harg5 arg6 harg6 arg7 harg7 arg8 harg8 arg9 harg9 arg10 harg10 x0 x1 x2 x3 xo6).1 x4))) -∗ K ⟨⟩))
      ⊢ wp frame (wpE (defs₀ (F := F)) Variants.none c none) E (cc0_weight i arg2 harg2 arg3 harg3 arg4 harg4 arg5 harg5 arg6 harg6 arg7 harg7 arg8 harg8 arg9 harg9 arg10 harg10) K := by
  simp only [cc0_weight_eq_skeleton]; unfold cc0_weight_skel
  simp only [k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6
  sl_exec (disch := first | sl_exact hc0)
  sl_step
  unfold kernelRun0_B.sl.r_2 kernelRun0_B.sl.r_1 kernelRun0_B.sl.r kernelRun0_B.sl.v0 kernelRun0_B.sl.v1
  rw [st_eq_loopS]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]; · iexists _; iexact H5
  isplitl [H6]; · iexists _; iexact H6
  isplitl [H7]; · iexists _; iexact H7
  iexists _; unfold cL; iexact H8

end Cert.Weight.Gen

end
-- ==== Proof.WeightFrameBits.lean ====
/-
The frame of the weight kernel: what each output's block holds after a grid point (the scales' block accumulates over the tiles of a
batch element), the obligation of the pipeline's body, and the run of the whole program.
-/
module

public import proofs.«01_k».proof.Proof.WeightRunBits
public import Idealize.ShloMosaic.Lib.Claim

@[expose] public section

-- membership in a rectangle of production extents (`View.cover_of_tiled`): the elaborator's structural look
-- recurses once per coordinate of the long axes
set_option maxRecDepth 16384

noncomputable section

namespace Cert.Weight.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg2 : Memref sig .tc .vmem S3072x512 .fp8e4m3) (harg2 : arg2.IsWhole)
  (arg3 : Memref sig .tc .smem S24x72 .f32) (harg3 : arg3.IsWhole) (arg4 : Memref sig .tc .vmem S1x3072x128 .f32) (harg4 : arg4.IsWhole)
  (arg5 : Memref sig .tc .vmem S1x3072x128 .f32) (harg5 : arg5.IsWhole) (arg6 : Memref sig .tc .vmem S1x512 .f32) (harg6 : arg6.IsWhole)
  (arg7 : Memref sig .tc .vmem S1x3072x512 .fp8e4m3) (harg7 : arg7.IsWhole) (arg8 : Memref sig .tc .vmem S1x24x128 .f32) (harg8 : arg8.IsWhole)
  (arg9 : Memref sig .tc .vmem S1x3072x512 .bf16) (harg9 : arg9.IsWhole) (arg10 : Memref sig .tc .vmem S1x1x512 .f32) (harg10 : arg10.IsWhole)
  (x0 : Vec F S3072x512 .fp8e4m3) (x1 : Vec F S24x72 .f32) (x2 : Vec F S1x3072x128 .f32) (x3 : Vec F S1x3072x128 .f32) (x4 : Vec F S1x512 .f32) (x6 : Vec F S1x24x128 .f32)

theorem cover0_5 (y : S1x3072x512.Idx) : ∃ pc ∈ (loopS Variants.none c none i arg2 harg2 arg3 harg3 arg4 harg4 arg5 harg5 arg6 harg6 arg7 harg7 arg8 harg8 arg9 harg9 arg10 harg10 x0 x1 x2 x3 x6).2.1, y ∈ pc.1.set :=
  View.cover_of_tiledL (loopS Variants.none c none i arg2 harg2 arg3 harg3 arg4 harg4 arg5 harg5 arg6 harg6 arg7 harg7 arg8 harg8 arg9 harg9 arg10 harg10 x0 x1 x2 x3 x6).2.1 S1x128x128.size (by sl_kernel_rfl) y

/-- What a point leaves in output 5's buffer, the scales' block being at `x6` when the loop starts. -/
def out0_5 : Vec F S1x3072x512 .fp8e4m3 :=
  VO0_5.read (Elt F) (VO0_5.writes (Elt F) VO0_5.junk (loopS Variants.none c none i arg2 harg2 arg3 harg3 arg4 harg4 arg5 harg5 arg6 harg6 arg7 harg7 arg8 harg8 arg9 harg9 arg10 harg10 x0 x1 x2 x3 x6).2.1)

theorem cover0_6 (y : S1x24x128.Idx) : ∃ pc ∈ (loopS Variants.none c none i arg2 harg2 arg3 harg3 arg4 harg4 arg5 harg5 arg6 harg6 arg7 harg7 arg8 harg8 arg9 harg9 arg10 harg10 x0 x1 x2 x3 x6).2.2.1, y ∈ pc.1.set :=
  View.cover_of_tiledL (loopS Variants.none c none i arg2 harg2 arg3 harg3 arg4 harg4 arg5 harg5 arg6 harg6 arg7 harg7 arg8 harg8 arg9 harg9 arg10 harg10 x0 x1 x2 x3 x6).2.2.1 S1x24x128.size (by sl_kernel_rfl) y

/-- What a point leaves in output 6's buffer, the scales' block being at `x6` when the loop starts. -/
def out0_6 : Vec F S1x24x128 .f32 :=
  VO0_6.read (Elt F) (VO0_6.writes (Elt F) VO0_6.junk (loopS Variants.none c none i arg2 harg2 arg3 harg3 arg4 harg4 arg5 harg5 arg6 harg6 arg7 harg7 arg8 harg8 arg9 harg9 arg10 harg10 x0 x1 x2 x3 x6).2.2.1)

theorem cover0_7 (y : S1x3072x512.Idx) : ∃ pc ∈ (loopS Variants.none c none i arg2 harg2 arg3 harg3 arg4 harg4 arg5 harg5 arg6 harg6 arg7 harg7 arg8 harg8 arg9 harg9 arg10 harg10 x0 x1 x2 x3 x6).2.2.2, y ∈ pc.1.set :=
  View.cover_of_tiledL (loopS Variants.none c none i arg2 harg2 arg3 harg3 arg4 harg4 arg5 harg5 arg6 harg6 arg7 harg7 arg8 harg8 arg9 harg9 arg10 harg10 x0 x1 x2 x3 x6).2.2.2 S1x128x128.size (by sl_kernel_rfl) y

/-- What a point leaves in output 7's buffer, the scales' block being at `x6` when the loop starts. -/
def out0_7 : Vec F S1x3072x512 .bf16 :=
  VO0_7.read (Elt F) (VO0_7.writes (Elt F) VO0_7.junk (loopS Variants.none c none i arg2 harg2 arg3 harg3 arg4 harg4 arg5 harg5 arg6 harg6 arg7 harg7 arg8 harg8 arg9 harg9 arg10 harg10 x0 x1 x2 x3 x6).2.2.2)

theorem cover0_8 (y : S1x1x512.Idx) : ∃ pc ∈ (cL arg6 harg6 (loopS Variants.none c none i arg2 harg2 arg3 harg3 arg4 harg4 arg5 harg5 arg6 harg6 arg7 harg7 arg8 harg8 arg9 harg9 arg10 harg10 x0 x1 x2 x3 x6).1 x4), y ∈ pc.1.set :=
  View.cover_of_tiledL (cL arg6 harg6 (loopS Variants.none c none i arg2 harg2 arg3 harg3 arg4 harg4 arg5 harg5 arg6 harg6 arg7 harg7 arg8 harg8 arg9 harg9 arg10 harg10 x0 x1 x2 x3 x6).1 x4) S1x1x128.size (by sl_kernel_rfl) y

/-- What a point leaves in output 8's buffer, the scales' block being at `x6` when the loop starts. -/
def out0_8 : Vec F S1x1x512 .f32 :=
  VO0_8.read (Elt F) (VO0_8.writes (Elt F) VO0_8.junk (cL arg6 harg6 (loopS Variants.none c none i arg2 harg2 arg3 harg3 arg4 harg4 arg5 harg5 arg6 harg6 arg7 harg7 arg8 harg8 arg9 harg9 arg10 harg10 x0 x1 x2 x3 x6).1 x4))

end

/-- What point `t` leaves in the scales' block over `x6`. -/
def msStep (c : Dev nD) (t : Fin cfg0.N) (x6 : Vec F S1x24x128 .f32) : Vec F S1x24x128 .f32 :=
  out0_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) x6

/-- The scales' block as the loop of point `n` finds it: zeros at the first tile of a batch element, else what the tile before left. -/
def x6At (c : Dev nD) : (n : ℕ) → n < cfg0.N → Vec F S1x24x128 .f32
  | 0, _ => k0_pay53
  | n + 1, hn => if (n + 1) % 18 = 0 then k0_pay53 else msStep m c ⟨n, Nat.lt_of_succ_lt hn⟩ (x6At c n (Nat.lt_of_succ_lt hn))

theorem x6At_A (c : Dev nD) (t : Fin cfg0.N) (h0 : t.val % 18 = 0) : x6At m c t.val t.isLt = k0_pay53 := by
  obtain ⟨n, hn⟩ := t
  cases n with
  | zero => rfl
  | succ n => exact if_pos h0

theorem x6At_B (c : Dev nD) (t : Fin cfg0.N) (h0 : ¬t.val % 18 = 0) :
    x6At m c t.val t.isLt = msStep m c ⟨t.val - 1, Nat.lt_of_le_of_lt (Nat.sub_le _ _) t.isLt⟩
      (x6At m c (t.val - 1) (Nat.lt_of_le_of_lt (Nat.sub_le _ _) t.isLt)) := by
  obtain ⟨n, hn⟩ := t
  cases n with
  | zero => exact absurd (Nat.zero_mod _) h0
  | succ n => exact if_neg h0

/-- What the outputs' buffers hold after the body at point `t`. -/
def outsAt0 (c : Dev nD) (t : Fin cfg0.N) : Vec F S1x3072x512 .fp8e4m3 × Vec F S1x24x128 .f32 × Vec F S1x3072x512 .bf16 × Vec F S1x1x512 .f32 :=
  (out0_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (x6At m c t.val t.isLt),
    msStep m c t (x6At m c t.val t.isLt),
    out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (x6At m c t.val t.isLt),
    out0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (x6At m c t.val t.isLt))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t).1
    | ⟨6, _⟩ => (outsAt0 m c t).2.1
    | ⟨7, _⟩ => (outsAt0 m c t).2.2.1
    | ⟨8, _⟩ => (outsAt0 m c t).2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t).1 := by dsimp only [dats]
theorem after0_6 (c : Dev nD) (t : Fin cfg0.N) : (dats m 0 c).after 6 t = (outsAt0 m c t).2.1 := by dsimp only [dats]
theorem after0_7 (c : Dev nD) (t : Fin cfg0.N) : (dats m 0 c).after 7 t = (outsAt0 m c t).2.2.1 := by dsimp only [dats]
theorem after0_8 (c : Dev nD) (t : Fin cfg0.N) : (dats m 0 c).after 8 t = (outsAt0 m c t).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Off the first tile of a batch element the scales' buffer holds what the tile before left. -/
theorem before0_6_B (c : Dev nD) (t : Fin cfg0.N) (h0 : ¬t.val % 18 = 0) (d) :
    (dats m 0 c).before 6 t d = x6At m c t.val t.isLt := by
  have hN : t.val < 36 := lt_of_lt_of_eq t.isLt (show cfg0.N = 36 from N_0)
  rw [Dat.before_out_kept _ 6 rfl t (by omega) (Bool.eq_false_iff.mpr fun h => by have := (flush0_6 _).mp h; dsimp only at this; omega)
    (fun _ => rfl) (fun _ _ => rfl), x6At_B m c t h0]
  dsimp only [dats, outsAt0]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at any point: its inputs hold their blocks, the scales' buffer what the tile before left (or, at a first tile, anything), so
    the run of the point's case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  unfold outsAt0 msStep out0_5 out0_6 out0_7 out0_8; (try dsimp only)
  by_cases h0 : t.val % 18 = 0
  · rw [x6At_A m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iintro ⟨H0, H1, H2, H3, H4, ⟨%e5, H5⟩, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) _)
    isplitl [H6]
    · unfold owns; iexists _; isplitr
      swap; · iexact H6
      ipureintro; exact View.read_writes_of_cover _ _ _ _ _ (cover0_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) _)
    isplitl [H7]
    · unfold owns; iexists _; isplitr
      swap; · iexact H7
      ipureintro; exact View.read_writes_of_cover _ _ _ _ _ (cover0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) _)
    unfold owns; iexists _; isplitr
    swap; · iexact H8
    ipureintro; exact View.read_writes_of_cover _ _ _ _ _ (cover0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) _)
  · simp only [before0_6_B m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexists _; iexact H7
    isplitl [H8]; · iexists _; iexact H8
    iintro ⟨H0, H1, H2, H3, H4, ⟨%e5, H5⟩, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) _)
    isplitl [H6]
    · unfold owns; iexists _; isplitr
      swap; · iexact H6
      ipureintro; exact View.read_writes_of_cover _ _ _ _ _ (cover0_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) _)
    isplitl [H7]
    · unfold owns; iexists _; isplitr
      swap; · iexact H7
      ipureintro; exact View.read_writes_of_cover _ _ _ _ _ (cover0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) _)
    unfold owns; iexists _; isplitr
    swap; · iexact H8
    ipureintro; exact View.read_writes_of_cover _ _ _ _ _ (cover0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Weight`'s statement (Defs.lean) at any `F` — Proof.lean cites it at `Bits`:
    `theorem Cert.Proof.claim : Cert.Claim := ⟨Cert.Weight.Gen.facts, fun m ρ _ => Cert.Weight.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Weight.Gen

end
-- ==== Proof.WeightRun.lean ====
/-
The whole-body run of the weight kernel, with the pieces its loop leaves named. A trip reads back the scales' block only: its other
stores, and what it carries on, do not depend on what the written buffers held before (`st_indep`).
-/
module

public import proofs.«01_k».proof.Proof.Gen.WeightIdeal.Frame.Runs

@[expose] public section

set_option maxRecDepth 16384

noncomputable section

namespace Cert.WeightIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (𝒱 : Variants) (c : Dev nD) (bd : Option 𝒱.V) (i : grid0.Coords) (arg2 : Memref sig .tc .vmem S3072x512 .fp8e4m3) (harg2 : arg2.IsWhole)
  (arg3 : Memref sig .tc .smem S24x72 .f32) (harg3 : arg3.IsWhole) (arg4 : Memref sig .tc .vmem S1x3072x128 .f32) (harg4 : arg4.IsWhole)
  (arg5 : Memref sig .tc .vmem S1x3072x128 .f32) (harg5 : arg5.IsWhole) (arg6 : Memref sig .tc .vmem S1x512 .f32) (harg6 : arg6.IsWhole)
  (arg7 : Memref sig .tc .vmem S1x3072x512 .fp8e4m3) (harg7 : arg7.IsWhole) (arg8 : Memref sig .tc .vmem S1x24x128 .f32) (harg8 : arg8.IsWhole)
  (arg9 : Memref sig .tc .vmem S1x3072x512 .bf16) (harg9 : arg9.IsWhole) (arg10 : Memref sig .tc .vmem S1x1x512 .f32) (harg10 : arg10.IsWhole)

section
variable (arg1 : BitVec 32) (v0 v1 : IVec S24x128 32) (X2 : BufTy.Contents (Elt F) arg2.view.ty) (X3 : BufTy.Contents (Elt F) arg3.view.ty)
  (X4 : BufTy.Contents (Elt F) arg4.view.ty) (X5 : BufTy.Contents (Elt F) arg5.view.ty)
  (f7 g7 : BufTy.Contents (Elt F) arg7.view.ty) (f8 : BufTy.Contents (Elt F) arg8.view.ty) (f9 g9 : BufTy.Contents (Elt F) arg9.view.ty)

theorem tripR_indep (k : Fin k0_t1_loop.trips) (acc : FVec F S8x128 .f32 × FVec F S8x128 .f32 × FVec F S8x128 .f32 × FVec F S8x128 .f32) (g8 : BufTy.Contents (Elt F) arg8.view.ty) :
    tripR_k0_t1 𝒱 c bd i arg2 harg2 arg3 harg3 arg4 harg4 arg5 harg5 arg6 harg6 arg7 harg7 arg8 harg8 arg9 harg9 arg10 harg10 arg1 v0 v1 X2 X3 X4 X5 k acc f7 f8 f9
      = tripR_k0_t1 𝒱 c bd i arg2 harg2 arg3 harg3 arg4 harg4 arg5 harg5 arg6 harg6 arg7 harg7 arg8 harg8 arg9 harg9 arg10 harg10 arg1 v0 v1 X2 X3 X4 X5 k acc g7 g8 g9 := by
  unfold tripR_k0_t1 trip_k0_t1
  rfl

/-- A trip's pieces are the same whatever the codes' and the dequantised weights' buffers held before. -/
theorem tripL_indep (k : Fin k0_t1_loop.trips) (acc : FVec F S8x128 .f32 × FVec F S8x128 .f32 × FVec F S8x128 .f32 × FVec F S8x128 .f32) :
    tripL_k0_t1 𝒱 c bd i arg2 harg2 arg3 harg3 arg4 harg4 arg5 harg5 arg6 harg6 arg7 harg7 arg8 harg8 arg9 harg9 arg10 harg10 arg1 v0 v1 X2 X3 X4 X5 k acc f7 f8 f9
      = tripL_k0_t1 𝒱 c bd i arg2 harg2 arg3 harg3 arg4 harg4 arg5 harg5 arg6 harg6 arg7 harg7 arg8 harg8 arg9 harg9 arg10 harg10 arg1 v0 v1 X2 X3 X4 X5 k acc g7 f8 g9 := by
  unfold tripL_k0_t1 trip_k0_t1
  rfl

/-- So is the state before trip `n`. -/
theorem st_indep (init : FVec F S8x128 .f32 × FVec F S8x128 .f32 × FVec F S8x128 .f32 × FVec F S8x128 .f32) (n : ℕ) (hn : n ≤ k0_t1_loop.trips) :
    st_k0_t1 𝒱 c bd i arg2 harg2 arg3 harg3 arg4 harg4 arg5 harg5 arg6 harg6 arg7 harg7 arg8 harg8 arg9 harg9 arg10 harg10 arg1 v0 v1 X2 X3 X4 X5 f7 f8 f9 init n
      = st_k0_t1 𝒱 c bd i arg2 harg2 arg3 harg3 arg4 harg4 arg5 harg5 arg6 harg6 arg7 harg7 arg8 harg8 arg9 harg9 arg10 harg10 arg1 v0 v1 X2 X3 X4 X5 g7 f8 g9 init n := by
  induction n with
  | zero => rfl
  | succ n ih =>
    rw [st_k0_t1_succ 𝒱 c bd i arg2 harg2 arg3 harg3 arg4 harg4 arg5 harg5 arg6 harg6 arg7 harg7 arg8 harg8 arg9 harg9 arg10 harg10 arg1 v0 v1 X2 X3 X4 X5 f7 f8 f9 init ⟨n, hn⟩,
      st_k0_t1_succ 𝒱 c bd i arg2 harg2 arg3 harg3 arg4 harg4 arg5 harg5 arg6 harg6 arg7 harg7 arg8 harg8 arg9 harg9 arg10 harg10 arg1 v0 v1 X2 X3 X4 X5 g7 f8 g9 init ⟨n, hn⟩]
    rw [ih (by omega)]
    generalize st_k0_t1 𝒱 c bd i arg2 harg2 arg3 harg3 arg4 harg4 arg5 harg5 arg6 harg6 arg7 harg7 arg8 harg8 arg9 harg9 arg10 harg10 arg1 v0 v1 X2 X3 X4 X5 g7 f8 g9 init n = P
    have hR := tripR_indep 𝒱 c bd i arg2 harg2 arg3 harg3 arg4 harg4 arg5 harg5 arg6 harg6 arg7 harg7 arg8 harg8 arg9 harg9 arg10 harg10 arg1 v0 v1 X2 X3 X4 X5
      (arg7.view.writes (Elt F) f7 P.2.1) (arg7.view.writes (Elt F) g7 P.2.1) (arg8.view.writes (Elt F) f8 P.2.2.1)
      (arg9.view.writes (Elt F) f9 P.2.2.2) (arg9.view.writes (Elt F) g9 P.2.2.2) ⟨n, hn⟩ P.1 (arg8.view.writes (Elt F) f8 P.2.2.1)
    have hL := tripL_indep 𝒱 c bd i arg2 harg2 arg3 harg3 arg4 harg4 arg5 harg5 arg6 harg6 arg7 harg7 arg8 harg8 arg9 harg9 arg10 harg10 arg1 v0 v1 X2 X3 X4 X5
      (arg7.view.writes (Elt F) f7 P.2.1) (arg7.view.writes (Elt F) g7 P.2.1) (arg8.view.writes (Elt F) f8 P.2.2.1)
      (arg9.view.writes (Elt F) f9 P.2.2.2) (arg9.view.writes (Elt F) g9 P.2.2.2) ⟨n, hn⟩ P.1
    exact congrArg₂ (fun (R : FVec F S8x128 .f32 × FVec F S8x128 .f32 × FVec F S8x128 .f32 × FVec F S8x128 .f32) (T : List _ × List _ × List _) =>
        (R, T.1 ++ P.2.1, T.2.1 ++ P.2.2.1, T.2.2 ++ P.2.2.2)) hR hL

end

/-- What the loop carries at its end and the pieces it leaves, over the scales' block at `x6`. -/
def loopS (x0 : Vec F S3072x512 .fp8e4m3) (x1 : Vec F S24x72 .f32) (x2 : Vec F S1x3072x128 .f32) (x3 : Vec F S1x3072x128 .f32) (x6 : Vec F S1x24x128 .f32) :
    (FVec F S8x128 .f32 × FVec F S8x128 .f32 × FVec F S8x128 .f32 × FVec F S8x128 .f32) × List (View.Piece (Elt F) S1x3072x512 .fp8e4m3)
      × List (View.Piece (Elt F) S1x24x128 .f32) × List (View.Piece (Elt F) S1x3072x512 .bf16) :=
  st_k0_t1 𝒱 c bd i arg2 harg2 arg3 harg3 arg4 harg4 arg5 harg5 arg6 harg6 arg7 harg7 arg8 harg8 arg9 harg9 arg10 harg10
    (BitVec.ofNat 32 (i 1).val) (iota .tc S24x128 32 [0] iota_S24x128_d0_w32) (iota .tc S24x128 32 [1] iota_S24x128_d1_w32)
    (harg2.unread x0) (harg3.unread x1) (harg4.unread x2) (harg5.unread x3) arg7.view.junk (harg8.unread x6) arg9.view.junk
    (k0_pay54, k0_pay55, k0_pay56, k0_pay57) k0_t1_loop.trips

theorem st_eq_loopS (x0 : Vec F S3072x512 .fp8e4m3) (x1 : Vec F S24x72 .f32) (x2 : Vec F S1x3072x128 .f32) (x3 : Vec F S1x3072x128 .f32) (x6 : Vec F S1x24x128 .f32) (f7 : BufTy.Contents (Elt F) arg7.view.ty)
    (f9 : BufTy.Contents (Elt F) arg9.view.ty) :
    st_k0_t1 𝒱 c bd i arg2 harg2 arg3 harg3 arg4 harg4 arg5 harg5 arg6 harg6 arg7 harg7 arg8 harg8 arg9 harg9 arg10 harg10
        (BitVec.ofNat 32 (i 1).val) (iota .tc S24x128 32 [0] iota_S24x128_d0_w32) (iota .tc S24x128 32 [1] iota_S24x128_d1_w32)
        (harg2.unread x0) (harg3.unread x1) (harg4.unread x2) (harg5.unread x3) f7 (harg8.unread x6) f9
        (k0_pay54, k0_pay55, k0_pay56, k0_pay57) (Scf.trips k0_t1_loop.lb k0_t1_loop.ub k0_t1_loop.st)
      = loopS 𝒱 c bd i arg2 harg2 arg3 harg3 arg4 harg4 arg5 harg5 arg6 harg6 arg7 harg7 arg8 harg8 arg9 harg9 arg10 harg10 x0 x1 x2 x3 x6 :=
  st_indep 𝒱 c bd i arg2 harg2 arg3 harg3 arg4 harg4 arg5 harg5 arg6 harg6 arg7 harg7 arg8 harg8 arg9 harg9 arg10 harg10 _ _ _ _ _ _ _ _ _ _ _ _ _ _ le_rfl

end

section
variable (arg6 : Memref sig .tc .vmem S1x512 .f32) (harg6 : arg6.IsWhole) (arg8 : Memref sig .tc .vmem S1x24x128 .f32) (harg8 : arg8.IsWhole)

/-- The pieces of the column biases' block: four column sums of what the loop carries, plus the bias. -/
def cL (acc : FVec F S8x128 .f32 × FVec F S8x128 .f32 × FVec F S8x128 .f32 × FVec F S8x128 .f32) (x4 : Vec F S1x512 .f32) : List (View.Piece (Elt F) S1x1x512 .f32) :=
  [⟨Rect.unit ![0, 0, 384] ![1, 1, 128] inb_S1x1x512_S1x1x128_0_0_384,
      k0_pay2 acc.2.2.2 (View.readAt (Elt F) arg6.view (Rect.unit (s := S1x512) ![0, 384] ![1, 128] inb_S1x512_S1x128_0_384).toLoadRect (harg6.unread x4))⟩,
    ⟨Rect.unit ![0, 0, 256] ![1, 1, 128] inb_S1x1x512_S1x1x128_0_0_256,
      k0_pay1 (k0_pay61 acc.2.2.1) (View.readAt (Elt F) arg6.view (Rect.unit (s := S1x512) ![0, 256] S1x128.size inb_S1x512_S1x128_0_256).toLoadRect (harg6.unread x4))⟩,
    ⟨Rect.unit ![0, 0, 128] S1x1x128.size inb_S1x1x512_S1x1x128_0_0_128,
      k0_pay60 acc.2.1 (View.readAt (Elt F) arg6.view (Rect.unit (s := S1x512) ![0, 128] S1x128.size inb_S1x512_S1x128_0_128).toLoadRect (harg6.unread x4))⟩,
    ⟨Rect.unit ![0, 0, 0] S1x1x128.size inb_S1x1x512_S1x1x128_0_0_0,
      k0_pay59 acc.1 (View.readAt (Elt F) arg6.view (Rect.unit (s := S1x512) ![0, 0] S1x128.size inb_S1x512_S1x128_0_0).toLoadRect (harg6.unread x4))⟩]

/-- The scales' buffer after the zeroing store holds zeros. -/
theorem zeroed (L : List (View.Piece (Elt F) S1x24x128 .f32)) (w : Vec F S1x24x128 .f32)
    (h : L = [⟨Rect.unit ![0, 0, 0] S1x24x128.size inb_S1x24x128_S1x24x128_0_0_0, w⟩]) :
    arg8.view.writes (Elt F) arg8.view.junk L = harg8.unread w := by
  refine harg8.eq_unread (funext fun y => ?_)
  subst h
  refine View.read_writes_cons_hit_of_coords (s := S1x24x128) arg8.view arg8.view.junk (Rect.unit ![0, 0, 0] S1x24x128.size inb_S1x24x128_S1x24x128_0_0_0)
    w [] y y fun a => ?_
  match a with
  | ⟨0, _⟩ => exact ((Nat.zero_add _).trans (Nat.one_mul _)).symm
  | ⟨1, _⟩ => exact ((Nat.zero_add _).trans (Nat.one_mul _)).symm
  | ⟨2, _⟩ => exact ((Nat.zero_add _).trans (Nat.one_mul _)).symm

end

set_option maxHeartbeats 1000000 in
/-- The body's run at the first tile of a batch element: the scales are zeroed first. -/
theorem kernelRun0_A (c : Dev nD) (i : grid0.Coords) (arg2 : Memref sig .tc .vmem S3072x512 .fp8e4m3) (harg2 : arg2.IsWhole)
  (arg3 : Memref sig .tc .smem S24x72 .f32) (harg3 : arg3.IsWhole) (arg4 : Memref sig .tc .vmem S1x3072x128 .f32) (harg4 : arg4.IsWhole)
  (arg5 : Memref sig .tc .vmem S1x3072x128 .f32) (harg5 : arg5.IsWhole) (arg6 : Memref sig .tc .vmem S1x512 .f32) (harg6 : arg6.IsWhole)
  (arg7 : Memref sig .tc .vmem S1x3072x512 .fp8e4m3) (harg7 : arg7.IsWhole) (arg8 : Memref sig .tc .vmem S1x24x128 .f32) (harg8 : arg8.IsWhole)
  (arg9 : Memref sig .tc .vmem S1x3072x512 .bf16) (harg9 : arg9.IsWhole) (arg10 : Memref sig .tc .vmem S1x1x512 .f32) (harg10 : arg10.IsWhole) (hc0 : cond0_0 i)
    (x0 : Vec F S3072x512 .fp8e4m3) (x1 : Vec F S24x72 .f32) (x2 : Vec F S1x3072x128 .f32) (x3 : Vec F S1x3072x128 .f32) (x4 : Vec F S1x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f (loopS Variants.none c none i arg2 harg2 arg3 harg3 arg4 harg4 arg5 harg5 arg6 harg6 arg7 harg7 arg8 harg8 arg9 harg9 arg10 harg10 x0 x1 x2 x3 k0_pay53).2.1) ∗ (∃ f, arg8.view.loc (c : Thread nD τ) ↦[arg8.view.set]{fullShare} arg8.view.writes (Elt F) f (loopS Variants.none c none i arg2 harg2 arg3 harg3 arg4 harg4 arg5 harg5 arg6 harg6 arg7 harg7 arg8 harg8 arg9 harg9 arg10 harg10 x0 x1 x2 x3 k0_pay53).2.2.1) ∗ (∃ f, arg9.view.loc (c : Thread nD τ) ↦[arg9.view.set]{fullShare} arg9.view.writes (Elt F) f (loopS Variants.none c none i arg2 harg2 arg3 harg3 arg4 harg4 arg5 harg5 arg6 harg6 arg7 harg7 arg8 harg8 arg9 harg9 arg10 harg10 x0 x1 x2 x3 k0_pay53).2.2.2) ∗ (∃ f, arg10.view.loc (c : Thread nD τ) ↦[arg10.view.set]{fullShare} arg10.view.writes (Elt F) f (cL arg6 harg6 (loopS Variants.none c none i arg2 harg2 arg3 harg3 arg4 harg4 arg5 harg5 arg6 harg6 arg7 harg7 arg8 harg8 arg9 harg9 arg10 harg10 x0 x1 x2 x3 k0_pay53).1 x4))) -∗ K ⟨⟩))
      ⊢ wp frame (wpE (defs₀ (F := F)) Variants.none c none) E (cc0_weight i arg2 harg2 arg3 harg3 arg4 harg4 arg5 harg5 arg6 harg6 arg7 harg7 arg8 harg8 arg9 harg9 arg10 harg10) K := by
  simp only [cc0_weight_eq_skeleton]; unfold cc0_weight_skel
  simp only [k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0)
  sl_step
  unfold kernelRun0_A.sl.r_2 kernelRun0_A.sl.r_1 kernelRun0_A.sl.r kernelRun0_A.sl.v0 kernelRun0_A.sl.v1
  rw [View.writes_append, zeroed arg8 harg8 kernelRun0_A.sl.H6_1 k0_pay53 rfl]
  rw [st_eq_loopS]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]; · iexists _; iexact H5
  isplitl [H6]; · iexists _; iexact H6
  isplitl [H7]; · iexists _; iexact H7
  iexists _; unfold cL; iexact H8

set_option maxHeartbeats 1000000 in
/-- The body's run at any later tile of a batch element, over the scales as the tile before left them. -/
theorem kernelRun0_B (c : Dev nD) (i : grid0.Coords) (arg2 : Memref sig .tc .vmem S3072x512 .fp8e4m3) (harg2 : arg2.IsWhole)
  (arg3 : Memref sig .tc .smem S24x72 .f32) (harg3 : arg3.IsWhole) (arg4 : Memref sig .tc .vmem S1x3072x128 .f32) (harg4 : arg4.IsWhole)
  (arg5 : Memref sig .tc .vmem S1x3072x128 .f32) (harg5 : arg5.IsWhole) (arg6 : Memref sig .tc .vmem S1x512 .f32) (harg6 : arg6.IsWhole)
  (arg7 : Memref sig .tc .vmem S1x3072x512 .fp8e4m3) (harg7 : arg7.IsWhole) (arg8 : Memref sig .tc .vmem S1x24x128 .f32) (harg8 : arg8.IsWhole)
  (arg9 : Memref sig .tc .vmem S1x3072x512 .bf16) (harg9 : arg9.IsWhole) (arg10 : Memref sig .tc .vmem S1x1x512 .f32) (harg10 : arg10.IsWhole) (hc0 : ¬cond0_0 i)
    (x0 : Vec F S3072x512 .fp8e4m3) (x1 : Vec F S24x72 .f32) (x2 : Vec F S1x3072x128 .f32) (x3 : Vec F S1x3072x128 .f32) (x4 : Vec F S1x512 .f32) (xo6 : Vec F S1x24x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xo6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f (loopS Variants.none c none i arg2 harg2 arg3 harg3 arg4 harg4 arg5 harg5 arg6 harg6 arg7 harg7 arg8 harg8 arg9 harg9 arg10 harg10 x0 x1 x2 x3 xo6).2.1) ∗ (∃ f, arg8.view.loc (c : Thread nD τ) ↦[arg8.view.set]{fullShare} arg8.view.writes (Elt F) f (loopS Variants.none c none i arg2 harg2 arg3 harg3 arg4 harg4 arg5 harg5 arg6 harg6 arg7 harg7 arg8 harg8 arg9 harg9 arg10 harg10 x0 x1 x2 x3 xo6).2.2.1) ∗ (∃ f, arg9.view.loc (c : Thread nD τ) ↦[arg9.view.set]{fullShare} arg9.view.writes (Elt F) f (loopS Variants.none c none i arg2 harg2 arg3 harg3 arg4 harg4 arg5 harg5 arg6 harg6 arg7 harg7 arg8 harg8 arg9 harg9 arg10 harg10 x0 x1 x2 x3 xo6).2.2.2) ∗ (∃ f, arg10.view.loc (c : Thread nD τ) ↦[arg10.view.set]{fullShare} arg10.view.writes (Elt F) f (cL arg6 harg6 (loopS Variants.none c none i arg2 harg2 arg3 harg3 arg4 harg4 arg5 harg5 arg6 harg6 arg7 harg7 arg8 harg8 arg9 harg9 arg10 harg10 x0 x1 x2 x3 xo6).1 x4))) -∗ K ⟨⟩))
      ⊢ wp frame (wpE (defs₀ (F := F)) Variants.none c none) E (cc0_weight i arg2 harg2 arg3 harg3 arg4 harg4 arg5 harg5 arg6 harg6 arg7 harg7 arg8 harg8 arg9 harg9 arg10 harg10) K := by
  simp only [cc0_weight_eq_skeleton]; unfold cc0_weight_skel
  simp only [k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6
  sl_exec (disch := first | sl_exact hc0)
  sl_step
  unfold kernelRun0_B.sl.r_2 kernelRun0_B.sl.r_1 kernelRun0_B.sl.r kernelRun0_B.sl.v0 kernelRun0_B.sl.v1
  rw [st_eq_loopS]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]; · iexists _; iexact H5
  isplitl [H6]; · iexists _; iexact H6
  isplitl [H7]; · iexists _; iexact H7
  iexists _; unfold cL; iexact H8

end Cert.WeightIdeal.Gen

end
-- ==== Proof.WeightFrame.lean ====
/-
The frame of the weight kernel: what each output's block holds after a grid point (the scales' block accumulates over the tiles of a
batch element), the obligation of the pipeline's body, and the run of the whole program.
-/
module

public import proofs.«01_k».proof.Proof.WeightRun
public import Idealize.ShloMosaic.Lib.Claim

@[expose] public section

-- membership in a rectangle of production extents (`View.cover_of_tiled`): the elaborator's structural look
-- recurses once per coordinate of the long axes
set_option maxRecDepth 16384

noncomputable section

namespace Cert.WeightIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg2 : Memref sig .tc .vmem S3072x512 .fp8e4m3) (harg2 : arg2.IsWhole)
  (arg3 : Memref sig .tc .smem S24x72 .f32) (harg3 : arg3.IsWhole) (arg4 : Memref sig .tc .vmem S1x3072x128 .f32) (harg4 : arg4.IsWhole)
  (arg5 : Memref sig .tc .vmem S1x3072x128 .f32) (harg5 : arg5.IsWhole) (arg6 : Memref sig .tc .vmem S1x512 .f32) (harg6 : arg6.IsWhole)
  (arg7 : Memref sig .tc .vmem S1x3072x512 .fp8e4m3) (harg7 : arg7.IsWhole) (arg8 : Memref sig .tc .vmem S1x24x128 .f32) (harg8 : arg8.IsWhole)
  (arg9 : Memref sig .tc .vmem S1x3072x512 .bf16) (harg9 : arg9.IsWhole) (arg10 : Memref sig .tc .vmem S1x1x512 .f32) (harg10 : arg10.IsWhole)
  (x0 : Vec F S3072x512 .fp8e4m3) (x1 : Vec F S24x72 .f32) (x2 : Vec F S1x3072x128 .f32) (x3 : Vec F S1x3072x128 .f32) (x4 : Vec F S1x512 .f32) (x6 : Vec F S1x24x128 .f32)

theorem cover0_5 (y : S1x3072x512.Idx) : ∃ pc ∈ (loopS Variants.none c none i arg2 harg2 arg3 harg3 arg4 harg4 arg5 harg5 arg6 harg6 arg7 harg7 arg8 harg8 arg9 harg9 arg10 harg10 x0 x1 x2 x3 x6).2.1, y ∈ pc.1.set :=
  View.cover_of_tiledL (loopS Variants.none c none i arg2 harg2 arg3 harg3 arg4 harg4 arg5 harg5 arg6 harg6 arg7 harg7 arg8 harg8 arg9 harg9 arg10 harg10 x0 x1 x2 x3 x6).2.1 S1x128x128.size (by sl_kernel_rfl) y

/-- What a point leaves in output 5's buffer, the scales' block being at `x6` when the loop starts. -/
def out0_5 : Vec F S1x3072x512 .fp8e4m3 :=
  VO0_5.read (Elt F) (VO0_5.writes (Elt F) VO0_5.junk (loopS Variants.none c none i arg2 harg2 arg3 harg3 arg4 harg4 arg5 harg5 arg6 harg6 arg7 harg7 arg8 harg8 arg9 harg9 arg10 harg10 x0 x1 x2 x3 x6).2.1)

theorem cover0_6 (y : S1x24x128.Idx) : ∃ pc ∈ (loopS Variants.none c none i arg2 harg2 arg3 harg3 arg4 harg4 arg5 harg5 arg6 harg6 arg7 harg7 arg8 harg8 arg9 harg9 arg10 harg10 x0 x1 x2 x3 x6).2.2.1, y ∈ pc.1.set :=
  View.cover_of_tiledL (loopS Variants.none c none i arg2 harg2 arg3 harg3 arg4 harg4 arg5 harg5 arg6 harg6 arg7 harg7 arg8 harg8 arg9 harg9 arg10 harg10 x0 x1 x2 x3 x6).2.2.1 S1x24x128.size (by sl_kernel_rfl) y

/-- What a point leaves in output 6's buffer, the scales' block being at `x6` when the loop starts. -/
def out0_6 : Vec F S1x24x128 .f32 :=
  VO0_6.read (Elt F) (VO0_6.writes (Elt F) VO0_6.junk (loopS Variants.none c none i arg2 harg2 arg3 harg3 arg4 harg4 arg5 harg5 arg6 harg6 arg7 harg7 arg8 harg8 arg9 harg9 arg10 harg10 x0 x1 x2 x3 x6).2.2.1)

theorem cover0_7 (y : S1x3072x512.Idx) : ∃ pc ∈ (loopS Variants.none c none i arg2 harg2 arg3 harg3 arg4 harg4 arg5 harg5 arg6 harg6 arg7 harg7 arg8 harg8 arg9 harg9 arg10 harg10 x0 x1 x2 x3 x6).2.2.2, y ∈ pc.1.set :=
  View.cover_of_tiledL (loopS Variants.none c none i arg2 harg2 arg3 harg3 arg4 harg4 arg5 harg5 arg6 harg6 arg7 harg7 arg8 harg8 arg9 harg9 arg10 harg10 x0 x1 x2 x3 x6).2.2.2 S1x128x128.size (by sl_kernel_rfl) y

/-- What a point leaves in output 7's buffer, the scales' block being at `x6` when the loop starts. -/
def out0_7 : Vec F S1x3072x512 .bf16 :=
  VO0_7.read (Elt F) (VO0_7.writes (Elt F) VO0_7.junk (loopS Variants.none c none i arg2 harg2 arg3 harg3 arg4 harg4 arg5 harg5 arg6 harg6 arg7 harg7 arg8 harg8 arg9 harg9 arg10 harg10 x0 x1 x2 x3 x6).2.2.2)

theorem cover0_8 (y : S1x1x512.Idx) : ∃ pc ∈ (cL arg6 harg6 (loopS Variants.none c none i arg2 harg2 arg3 harg3 arg4 harg4 arg5 harg5 arg6 harg6 arg7 harg7 arg8 harg8 arg9 harg9 arg10 harg10 x0 x1 x2 x3 x6).1 x4), y ∈ pc.1.set :=
  View.cover_of_tiledL (cL arg6 harg6 (loopS Variants.none c none i arg2 harg2 arg3 harg3 arg4 harg4 arg5 harg5 arg6 harg6 arg7 harg7 arg8 harg8 arg9 harg9 arg10 harg10 x0 x1 x2 x3 x6).1 x4) S1x1x128.size (by sl_kernel_rfl) y

/-- What a point leaves in output 8's buffer, the scales' block being at `x6` when the loop starts. -/
def out0_8 : Vec F S1x1x512 .f32 :=
  VO0_8.read (Elt F) (VO0_8.writes (Elt F) VO0_8.junk (cL arg6 harg6 (loopS Variants.none c none i arg2 harg2 arg3 harg3 arg4 harg4 arg5 harg5 arg6 harg6 arg7 harg7 arg8 harg8 arg9 harg9 arg10 harg10 x0 x1 x2 x3 x6).1 x4))

end

/-- What point `t` leaves in the scales' block over `x6`. -/
def msStep (c : Dev nD) (t : Fin cfg0.N) (x6 : Vec F S1x24x128 .f32) : Vec F S1x24x128 .f32 :=
  out0_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) x6

/-- The scales' block as the loop of point `n` finds it: zeros at the first tile of a batch element, else what the tile before left. -/
def x6At (c : Dev nD) : (n : ℕ) → n < cfg0.N → Vec F S1x24x128 .f32
  | 0, _ => k0_pay53
  | n + 1, hn => if (n + 1) % 18 = 0 then k0_pay53 else msStep m c ⟨n, Nat.lt_of_succ_lt hn⟩ (x6At c n (Nat.lt_of_succ_lt hn))

theorem x6At_A (c : Dev nD) (t : Fin cfg0.N) (h0 : t.val % 18 = 0) : x6At m c t.val t.isLt = k0_pay53 := by
  obtain ⟨n, hn⟩ := t
  cases n with
  | zero => rfl
  | succ n => exact if_pos h0

theorem x6At_B (c : Dev nD) (t : Fin cfg0.N) (h0 : ¬t.val % 18 = 0) :
    x6At m c t.val t.isLt = msStep m c ⟨t.val - 1, Nat.lt_of_le_of_lt (Nat.sub_le _ _) t.isLt⟩
      (x6At m c (t.val - 1) (Nat.lt_of_le_of_lt (Nat.sub_le _ _) t.isLt)) := by
  obtain ⟨n, hn⟩ := t
  cases n with
  | zero => exact absurd (Nat.zero_mod _) h0
  | succ n => exact if_neg h0

/-- What the outputs' buffers hold after the body at point `t`. -/
def outsAt0 (c : Dev nD) (t : Fin cfg0.N) : Vec F S1x3072x512 .fp8e4m3 × Vec F S1x24x128 .f32 × Vec F S1x3072x512 .bf16 × Vec F S1x1x512 .f32 :=
  (out0_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (x6At m c t.val t.isLt),
    msStep m c t (x6At m c t.val t.isLt),
    out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (x6At m c t.val t.isLt),
    out0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (x6At m c t.val t.isLt))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t).1
    | ⟨6, _⟩ => (outsAt0 m c t).2.1
    | ⟨7, _⟩ => (outsAt0 m c t).2.2.1
    | ⟨8, _⟩ => (outsAt0 m c t).2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t).1 := by dsimp only [dats]
theorem after0_6 (c : Dev nD) (t : Fin cfg0.N) : (dats m 0 c).after 6 t = (outsAt0 m c t).2.1 := by dsimp only [dats]
theorem after0_7 (c : Dev nD) (t : Fin cfg0.N) : (dats m 0 c).after 7 t = (outsAt0 m c t).2.2.1 := by dsimp only [dats]
theorem after0_8 (c : Dev nD) (t : Fin cfg0.N) : (dats m 0 c).after 8 t = (outsAt0 m c t).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Off the first tile of a batch element the scales' buffer holds what the tile before left. -/
theorem before0_6_B (c : Dev nD) (t : Fin cfg0.N) (h0 : ¬t.val % 18 = 0) (d) :
    (dats m 0 c).before 6 t d = x6At m c t.val t.isLt := by
  have hN : t.val < 36 := lt_of_lt_of_eq t.isLt (show cfg0.N = 36 from N_0)
  rw [Dat.before_out_kept _ 6 rfl t (by omega) (Bool.eq_false_iff.mpr fun h => by have := (flush0_6 _).mp h; dsimp only at this; omega)
    (fun _ => rfl) (fun _ _ => rfl), x6At_B m c t h0]
  dsimp only [dats, outsAt0]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at any point: its inputs hold their blocks, the scales' buffer what the tile before left (or, at a first tile, anything), so
    the run of the point's case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  unfold outsAt0 msStep out0_5 out0_6 out0_7 out0_8; (try dsimp only)
  by_cases h0 : t.val % 18 = 0
  · rw [x6At_A m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iintro ⟨H0, H1, H2, H3, H4, ⟨%e5, H5⟩, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) _)
    isplitl [H6]
    · unfold owns; iexists _; isplitr
      swap; · iexact H6
      ipureintro; exact View.read_writes_of_cover _ _ _ _ _ (cover0_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) _)
    isplitl [H7]
    · unfold owns; iexists _; isplitr
      swap; · iexact H7
      ipureintro; exact View.read_writes_of_cover _ _ _ _ _ (cover0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) _)
    unfold owns; iexists _; isplitr
    swap; · iexact H8
    ipureintro; exact View.read_writes_of_cover _ _ _ _ _ (cover0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) _)
  · simp only [before0_6_B m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexists _; iexact H7
    isplitl [H8]; · iexists _; iexact H8
    iintro ⟨H0, H1, H2, H3, H4, ⟨%e5, H5⟩, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) _)
    isplitl [H6]
    · unfold owns; iexists _; isplitr
      swap; · iexact H6
      ipureintro; exact View.read_writes_of_cover _ _ _ _ _ (cover0_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) _)
    isplitl [H7]
    · unfold owns; iexists _; isplitr
      swap; · iexact H7
      ipureintro; exact View.read_writes_of_cover _ _ _ _ _ (cover0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) _)
    unfold owns; iexists _; isplitr
    swap; · iexact H8
    ipureintro; exact View.read_writes_of_cover _ _ _ _ _ (cover0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_WeightIdeal`'s statement (Defs.lean) at any `F` — Proof.lean cites it at `Bits`:
    `theorem Cert.Proof.claim : Cert.Claim := ⟨Cert.WeightIdeal.Gen.facts, fun m ρ _ => Cert.WeightIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.WeightIdeal.Gen

end
-- ==== Proof.WeightPay.lean ====
/-
What one block of the weight kernel computes, as functions of its 128 by 128 entries.
-/
module

public import proofs.«01_k».proof.Proof.ActRef
public import proofs.«01_k».proof.Proof.WeightFrame
public import Idealize.ShloMosaic.Lib.Pipeline.ValueKit
public import Idealize.ShloMosaic.Lib.Pipeline.ReadBack
public import Idealize.ShloMosaic.Lib.Ring

@[expose] public section

set_option maxRecDepth 16384

noncomputable section

namespace Cert.WeightIdeal.WeightValue

open Idealize.ShloMosaic Idealize.ShloMosaic.TcCoe Idealize.ShloMosaic.Tactic Idealize.SL.Sem
open Cert.WeightIdeal Cert.WeightIdeal.Gen
open Cert.ActIdeal.ActValue (ex sc iv)

/-- The largest magnitude of a block of 128 by 128. -/
def am2 (v : Fin 128 → Fin 128 → EReal) : EReal :=
  Finset.univ.fold max (Ideal.ofBits .f32 0xFF800000#32) fun l : Fin 128 =>
    Finset.univ.fold max (Ideal.ofBits .f32 0xFF800000#32) fun r : Fin 128 => FloatOps.absf (F := Ideal) (φ := .f32) (v r l)

/-- An entry's code, from the entry and its block's largest magnitude. -/
def codeOf (v a : EReal) : EReal := min (Ideal.ofBits .f32 0x43E00000#32) (max (Ideal.ofBits .f32 0xC3E00000#32) (v * iv a))

/-! ## The largest magnitude, and what follows from it -/

def RA (v : FVec Ideal S128x128 .f32) : FVec Ideal S1x1 .f32 :=
  have v68 : FVec Ideal S128x128 .f32 := absf v
  have v69 : FVec Ideal S128 .f32 := multiReduction .maximumf [0] S128 v68 0xFF800000#32 reduces_S128x128_S128 (.inl rfl) rfl
  have v70 : FVec Ideal S1x128 .f32 := shapeCast S1x128 v69 shapeCasts_S128_S1x128
  have v71 : FVec Ideal S1 .f32 := multiReduction .maximumf [1] S1 v70 0xFF800000#32 reduces_S1x128_S1 (.inl rfl) rfl
  have v72 : FVec Ideal S1x1 .f32 := shapeCast S1x1 v71 shapeCasts_S1_S1x1
  v72

def P8 (v72 : FVec Ideal S1x1 .f32) : FVec Ideal S1x1 .f32 :=
  have cst_36 : Ideal .f32 := Scalar.ofBits .f32 0x3B124925#32
  have v73 : FVec Ideal S1x1 .f32 := broadcast S1x1 cst_36
  have v74 : FVec Ideal S1x1 .f32 := mulf v72 v73
  v74

def P9 (v74 : FVec Ideal S1x1 .f32) : IVec S1x1 1 :=
  have cst_37 : Ideal .f32 := Scalar.ofBits .f32 0x00000000#32
  have v75 : FVec Ideal S1x1 .f32 := broadcast S1x1 cst_37
  have v76 : IVec S1x1 1 := cmpf .oeq v74 v75
  v76

def P10 (v74 : FVec Ideal S1x1 .f32) : FVec Ideal S1x1 .f32 :=
  have v77 : FVec Ideal S1x1 .f32 := log v74
  have cst_38 : Ideal .f32 := Scalar.ofBits .f32 0x3F317218#32
  have v78 : FVec Ideal S1x1 .f32 := broadcast S1x1 cst_38
  have v79 : FVec Ideal S1x1 .f32 := divf v77 v78
  have v80 : FVec Ideal S1x1 .f32 := floor v79
  have cst_39 : Ideal .f32 := Scalar.ofBits .f32 0x3F800000#32
  have v81 : FVec Ideal S1x1 .f32 := broadcast S1x1 cst_39
  have v82 : FVec Ideal S1x1 .f32 := addf v80 v81
  v82

def P11 (v82 : FVec Ideal S1x1 .f32) : FVec Ideal S1x1 .f32 := exp2 v82

/-- The block's scale, its codes, and its dequantised entries, from the largest magnitude. -/
def scP (a : FVec Ideal S1x1 .f32) : FVec Ideal S1x1 .f32 := k0_pay13 (P9 (P8 a)) (P11 (P10 (P8 a))) k0_pay12
def codeP (v : FVec Ideal S128x128 .f32) (a : FVec Ideal S1x1 .f32) : FVec Ideal S1x128x128 .fp8e4m3 := k0_pay15 v (P9 (P8 a)) (P10 (P8 a))
def wbP (v : FVec Ideal S128x128 .f32) (a : FVec Ideal S1x1 .f32) : FVec Ideal S1x128x128 .bf16 :=
  k0_pay16 v (P9 (P8 a)) (P10 (P8 a)) (P11 (P10 (P8 a))) k0_pay12

theorem RA_at (v : FVec Ideal S128x128 .f32) : RA v (ix2 (n0 := 1) (n1 := 1) 0 0) = am2 fun r l => v (ix2 r l) := by
  pointwise [RA]
  unfold am2
  with_reducible rfl

theorem scP_at (a : FVec Ideal S1x1 .f32) : scP a (ix2 (n0 := 1) (n1 := 1) 0 0) = sc (a (ix2 (n0 := 1) (n1 := 1) 0 0)) := by
  pointwise [scP, k0_pay13, k0_pay12, P8, P9, P10, P11]
  rw [sc, ex]

theorem codeP_at (v : FVec Ideal S128x128 .f32) (a : FVec Ideal S1x1 .f32) (r l : Fin 128) :
    codeP v a (ix3 (n0 := 1) 0 r l) = codeOf (v (ix2 r l)) (a (ix2 (n0 := 1) (n1 := 1) 0 0)) := by
  pointwise [codeP, k0_pay15, k0_pay14, P8, P9, P10, P11]
  rw [codeOf, iv, ex]

theorem wbP_at (v : FVec Ideal S128x128 .f32) (a : FVec Ideal S1x1 .f32) (r l : Fin 128) :
    wbP v a (ix3 (n0 := 1) 0 r l) = codeOf (v (ix2 r l)) (a (ix2 (n0 := 1) (n1 := 1) 0 0)) * sc (a (ix2 (n0 := 1) (n1 := 1) 0 0)) := by
  pointwise [wbP, k0_pay16, k0_pay15, k0_pay14, k0_pay13, k0_pay12, P8, P9, P10, P11]
  rw [codeOf, iv, sc, ex]

/-! ## The entries of a block, and its column sums -/

theorem pay7_at (g : Vec Ideal S1x128x128 .f32) (w : Vec Ideal S128x128 .fp8e4m3) (s : EReal) (r l : Fin 128) :
    k0_pay7 g w s (ix2 r l) = (1 + g (ix3 (n0 := 1) 0 r l)) * (w (ix2 r l) * s) := by
  pointwise [k0_pay7, k0_pay3, k0_pay5]

theorem pay6_at (acc : FVec Ideal S8x128 .f32) (h : Vec Ideal S1x128x128 .f32) (w : Vec Ideal S128x128 .fp8e4m3) (s : EReal) (r : Fin 8) (l : Fin 128) :
    k0_pay6 acc h w s (ix2 r l) = acc (ix2 r l) + ∑ p : Fin 16, h (ix3 (n0 := 1) 0 ⟨p * 8 + r, by omega⟩ l) * (w (ix2 ⟨p * 8 + r, by omega⟩ l) * s) := by
  pointwise [k0_pay6, k0_pay4, k0_pay5]

/-- A block's column sums and the bias. -/
theorem pay59_at (acc : FVec Ideal S8x128 .f32) (b : Vec Ideal S1x128 .f32) (l : Fin 128) :
    k0_pay59 acc b (ix3 (n0 := 1) (n1 := 1) 0 0 l) = (∑ r : Fin 8, acc (ix2 r l)) + b (ix2 (n0 := 1) 0 l) := by
  pointwise [k0_pay59]

/-- The scales' block, one entry replaced: the row and the lane of the block at work. -/
def hitP (j : BitVec 32) (arg1 : BitVec 32) (v0 v1 : IVec S24x128 32) (arg11 : BitVec 32) (s : FVec Ideal S1x1 .f32) (v117 : Vec Ideal S1x24x128 .f32) : FVec Ideal S1x24x128 .f32 :=
  have v110 : IVec S24x128 32 := broadcast S24x128 arg11
  have v111 : IVec S24x128 1 := cmpi .eq v0 v110
  let v112 : BitVec 32 := Scalar.muli arg1 4#32
  let v113 : BitVec 32 := Scalar.addi v112 j
  have v114 : IVec S24x128 32 := broadcast S24x128 v113
  have v115 : IVec S24x128 1 := cmpi .eq v1 v114
  have v116 : IVec S24x128 1 := andi v111 v115
  have v118 : FVec Ideal S24x128 .f32 := shapeCast S24x128 v117 shapeCasts_S1x24x128_S24x128
  have v119 : FVec Ideal S1x1 .f32 := shapeCast S1x1 s shapeCasts_S1x1_S1x1
  have v120 : FVec Ideal S24x128 .f32 := broadcastTo S24x128 v119 broadcasts_S1x1_S24x128
  have v121 : FVec Ideal S24x128 .f32 := select v116 v120 v118
  have v124 : FVec Ideal S1x24x128 .f32 := shapeCast S1x24x128 v121 shapeCasts_S24x128_S1x24x128
  v124

theorem hitP_at (j arg1 arg11 : BitVec 32) (s : FVec Ideal S1x1 .f32) (x : Vec Ideal S1x24x128 .f32) (q : Fin 24) (l : Fin 128) :
    hitP j arg1 (iota .tc S24x128 32 [0] iota_S24x128_d0_w32) (iota .tc S24x128 32 [1] iota_S24x128_d1_w32) arg11 s x (ix3 (n0 := 1) 0 q l)
      = if BitVec.ofNat 32 q = arg11 ∧ BitVec.ofNat 32 l = arg1 * 4#32 + j then s (ix2 (n0 := 1) (n1 := 1) 0 0) else x (ix3 (n0 := 1) 0 q l) := by
  pointwise [hitP]
  have cm : ∀ a b : BitVec 32, IntOp.cmpi .eq a b = if a = b then 1#1 else 0#1 := fun a b => by
    by_cases h : a = b
    · simp [IntOp.cmpi, h]
    · rw [if_neg h]; show BitVec.ofBool (a == b) = 0#1; rw [beq_eq_false_iff_ne.mpr h]; rfl
  rw [cm, cm]
  show (if _ then _ else _) = _
  simp only [Scalar.addi, Scalar.muli, IntOp.addi, IntOp.muli, IntOp.andi]
  by_cases h : BitVec.ofNat 32 q = arg11 <;> by_cases h' : BitVec.ofNat 32 l = arg1 * 4#32 + j <;> simp [h, h']

/-! ## The four blocks of a trip are cut alike

The four unrolled blocks name their steps differently; they are the same functions of their loads. -/

section
variable (g h : Vec Ideal S1x128x128 .f32) (w : Vec Ideal S128x128 .fp8e4m3) (s : EReal) (acc : FVec Ideal S8x128 .f32)
  (arg1 : BitVec 32) (v0 v1 : IVec S24x128 32) (arg11 : BitVec 32) (x : Vec Ideal S1x24x128 .f32)

theorem code0 : k0_pay15 (k0_pay7 g w s) (k0_pay9 g w s) (k0_pay10 g w s) = codeP (k0_pay7 g w s) (RA (k0_pay7 g w s)) := rfl
theorem code1 : k0_pay26 (k0_pay25 (k0_pay3 g) w s) = codeP (k0_pay7 g w s) (RA (k0_pay7 g w s)) := rfl
theorem code2 : k0_pay37 (k0_pay31 (k0_pay3 g) w s) = codeP (k0_pay7 g w s) (RA (k0_pay7 g w s)) := rfl
theorem code3 : k0_pay50 (k0_pay43 (k0_pay3 g) w s) (k0_pay45 (k0_pay3 g) w s) (k0_pay46 (k0_pay3 g) w s) = codeP (k0_pay7 g w s) (RA (k0_pay7 g w s)) := rfl
theorem wb0 : k0_pay16 (k0_pay7 g w s) (k0_pay9 g w s) (k0_pay10 g w s) (k0_pay11 g w s) k0_pay12 = wbP (k0_pay7 g w s) (RA (k0_pay7 g w s)) := rfl
theorem wb1 : k0_pay27 (k0_pay24 (k0_pay3 g) w s) (k0_pay25 (k0_pay3 g) w s) = wbP (k0_pay7 g w s) (RA (k0_pay7 g w s)) := rfl
theorem wb2 : k0_pay38 (k0_pay31 (k0_pay3 g) w s) = wbP (k0_pay7 g w s) (RA (k0_pay7 g w s)) := rfl
theorem wb3 : k0_pay51 (k0_pay43 (k0_pay3 g) w s) (k0_pay45 (k0_pay3 g) w s) (k0_pay46 (k0_pay3 g) w s) = wbP (k0_pay7 g w s) (RA (k0_pay7 g w s)) := rfl
theorem hit0 : k0_pay17 arg1 v0 v1 arg11 (k0_pay9 g w s) (k0_pay11 g w s) k0_pay12 x = hitP 0#32 arg1 v0 v1 arg11 (scP (RA (k0_pay7 g w s))) x := rfl
theorem hit1 : k0_pay28 arg1 v0 v1 arg11 (k0_pay24 (k0_pay3 g) w s) x = hitP 1#32 arg1 v0 v1 arg11 (scP (RA (k0_pay7 g w s))) x := rfl
theorem hit2 : k0_pay40 arg1 v0 v1 (k0_pay35 (k0_pay31 (k0_pay3 g) w s)) (k0_pay39 arg11) x = hitP 2#32 arg1 v0 v1 arg11 (scP (RA (k0_pay7 g w s))) x := rfl
theorem hit3 : k0_pay58 (k0_pay52 arg1 v0 v1 arg11 (k0_pay45 (k0_pay3 g) w s) (k0_pay46 (k0_pay3 g) w s) x) = hitP 3#32 arg1 v0 v1 arg11 (scP (RA (k0_pay7 g w s))) x := rfl
theorem acc1 : k0_pay19 acc (k0_pay4 h) w s = k0_pay6 acc h w s := rfl
theorem acc2 : k0_pay30 acc (k0_pay4 h) w s = k0_pay6 acc h w s := rfl
theorem acc3 : k0_pay42 acc (k0_pay4 h) w s = k0_pay6 acc h w s := rfl

end

end Cert.WeightIdeal.WeightValue

end
-- ==== Proof.WeightSpec.lean ====
/-
The four arrays of the weight call, as functions of its arguments.
-/
module

public import proofs.«01_k».proof.Proof.WeightPay

@[expose] public section

noncomputable section

namespace Cert.WeightIdeal.WeightValue

open Idealize.ShloMosaic Idealize.ShloMosaic.TcCoe
open Cert.WeightIdeal Cert.WeightIdeal.Gen
open Cert.ActIdeal.ActValue (sc)

variable (M Sh : S2x3072.Idx → EReal) (W : S3072x9216.Idx → EReal) (S : S24x72.Idx → EReal) (B : S9216.Idx → EReal)

/-- The weight dequantised: a code times its block's scale. -/
def uu (k : Fin 3072) (n : Fin 9216) : EReal := W (ix2 k n) * S (ix2 (n0 := 24) (n1 := 72) ⟨k / 128, by omega⟩ ⟨n / 128, by omega⟩)

/-- The weight modulated for a batch element. -/
def vv (b : Fin 2) (k : Fin 3072) (n : Fin 9216) : EReal := (1 + M (ix2 b k)) * uu W S k n

/-- A block's largest magnitude. -/
def aa (b : Fin 2) (q : Fin 24) (j : Fin 72) : EReal := am2 fun r l => vv M W S b ⟨128 * q + r, by omega⟩ ⟨128 * j + l, by omega⟩

def cd3 (b : Fin 2) (k : Fin 3072) (n : Fin 9216) : EReal := codeOf (vv M W S b k n) (aa M W S b ⟨k / 128, by omega⟩ ⟨n / 128, by omega⟩)

def wb_ (b : Fin 2) (k : Fin 3072) (n : Fin 9216) : EReal := cd3 M W S b k n * sc (aa M W S b ⟨k / 128, by omega⟩ ⟨n / 128, by omega⟩)

/-- The codes. -/
def T5 (y : S2x3072x9216.Idx) : EReal := cd3 M W S (y 0) (y 1) (y 2)
/-- The scales. -/
def T6 (y : S2x24x72.Idx) : EReal := sc (aa M W S (y 0) (y 1) (y 2))
/-- The codes times their scales. -/
def T7 (y : S2x3072x9216.Idx) : EReal := wb_ M W S (y 0) (y 1) (y 2)
/-- The shift's product with the dequantised weight, plus the bias. -/
def T8 (y : S2x1x9216.Idx) : EReal := (∑ k : Fin 3072, Sh (ix2 (n1 := 3072) (y 0) k) * uu W S k (y 2)) + B (ix1 (n0 := 9216) (y 2))

end Cert.WeightIdeal.WeightValue

end
-- ==== Proof.WeightRef.lean ====
/-
The weight reference's four arrays after its run, each the function of the arguments that the kernel's are.
-/
module

public import proofs.«01_k».proof.Proof.WeightSpec
public import proofs.«01_k».proof.Proof.ActRef
public import proofs.«01_k».proof.Proof.Gen.WeightReferenceIdeal.Frame
public import Idealize.ShloMosaic.Lib.Pipeline.ValueKit

@[expose] public section

set_option maxRecDepth 16384

noncomputable section

namespace Cert.WeightReferenceIdeal.WeightValue

open Idealize.ShloMosaic Idealize.ShloMosaic.TcCoe Idealize.ShloMosaic.Tactic Idealize.SL.Sem
open Idealize.ShloMosaic.Pipeline (Dat)
open Cert.WeightReferenceIdeal Cert.WeightReferenceIdeal.Gen
open Cert.ActIdeal.ActValue (ex sc iv)
open Cert.ActReferenceIdeal.ActValue (E sc_eq iv_eq)
open Cert.WeightIdeal.WeightValue (am2 codeOf uu vv aa cd3 wb_ T5 T6 T7 T8)

variable (M Sh : Vec Ideal S2x3072 .f32) (W : Vec Ideal S3072x9216 .fp8e4m3) (S : Vec Ideal S24x72 .f32) (B : Vec Ideal S9216 .f32)

theorem pay4_at (q : Fin 24) (r : Fin 128) (j : Fin 72) (l : Fin 128) :
    k0_pay4 W S (ix4 q r j l) = uu W S ⟨128 * q + r, by omega⟩ ⟨128 * j + l, by omega⟩ := by
  pointwise [k0_pay4]
  unfold uu
  exact congrArg₂ (· * ·) (congrArg₂ (fun a b => W (ix2 a b)) (Fin.ext (by show _ * 128 + _ = _; dsimp only; omega)) (Fin.ext (by show _ * 128 + _ = _; dsimp only; omega)))
    (congrArg₂ (fun a b => S (ix2 a b)) (Fin.ext (by dsimp only; omega)) (Fin.ext (by dsimp only; omega)))

theorem pay5_at (b : Fin 2) (q : Fin 24) (r : Fin 128) (j : Fin 72) (l : Fin 128) :
    k0_pay5 W S M (ix5 b q r j l) = vv M W S b ⟨128 * q + r, by omega⟩ ⟨128 * j + l, by omega⟩ := by
  pointwise [k0_pay5, pay4_at]
  unfold vv
  exact congrArg (fun a => (1 + M (ix2 b a)) * _) (Fin.ext (by dsimp only; omega))

def PA (v15 : FVec Ideal S2x24x128x72x128 .f32) : FVec Ideal S2x24x72 .f32 :=
  have v16 : FVec Ideal S2x24x128x72x128 .f32 := absf v15
  have v17 : FVec Ideal S2x24x72 .f32 := multiReduction .maximumf [2, 4] S2x24x72 v16 0xFF800000#32 reduces_S2x24x128x72x128_S2x24x72 (.inl rfl) rfl
  v17

theorem drop_ix (b : Fin 2) (q : Fin 24) (r : Fin 128) (j : Fin 72) (l : Fin 128) :
    reduces_S2x24x128x72x128_S2x24x72.drop (ix5 b q r j l) = ix3 b q j := by
  funext a
  fin_cases a <;> rfl

theorem PA_at (v : FVec Ideal S2x24x128x72x128 .f32) (b : Fin 2) (q : Fin 24) (j : Fin 72) :
    PA v (ix3 b q j) = am2 fun r l => v (ix5 b q r j l) := by
  pointwise [PA]
  unfold am2
  apply le_antisymm
  · rw [Finset.fold_max_le]
    refine ⟨(Finset.le_fold_max _).2 (.inl le_rfl), fun x hx => ?_⟩
    idx_vars x
    have e := (drop_ix x0 x1 x2 x3 x4).symm.trans (Finset.mem_filter.1 hx).2
    obtain rfl : x0 = b := congrFun e 0
    obtain rfl : x1 = q := congrFun e 1
    obtain rfl : x3 = j := congrFun e 2
    exact (Finset.le_fold_max _).2 (.inr ⟨x4, Finset.mem_univ _, (Finset.le_fold_max _).2 (.inr ⟨x2, Finset.mem_univ _, le_rfl⟩)⟩)
  · rw [Finset.fold_max_le]
    refine ⟨(Finset.le_fold_max _).2 (.inl le_rfl), fun l _ => ?_⟩
    rw [Finset.fold_max_le]
    exact ⟨(Finset.le_fold_max _).2 (.inl le_rfl), fun r _ => (Finset.le_fold_max _).2 (.inr ⟨ix5 b q r j l, Finset.mem_filter.2 ⟨Finset.mem_univ _, drop_ix ..⟩, le_rfl⟩)⟩

def PE (v17 : FVec Ideal S2x24x72 .f32) : FVec Ideal S2x24x1x72x1 .f32 :=
  have v18 : FVec Ideal S2x24x1x72x1 .f32 := shapeCast S2x24x1x72x1 v17 shapeCasts_S2x24x72_S2x24x1x72x1
  have cst_6 : Ideal .f32 := Scalar.ofBits .f32 0x3B124925#32
  have v19 : FVec Ideal S2x24x1x72x1 .f32 := broadcast S2x24x1x72x1 cst_6
  have v20 : FVec Ideal S2x24x1x72x1 .f32 := mulf v18 v19
  have v21 : FVec Ideal S2x24x1x72x1 .f32 := log v20
  have cst_7 : Ideal .f32 := Scalar.ofBits .f32 0x3F317218#32
  have v22 : FVec Ideal S2x24x1x72x1 .f32 := broadcast S2x24x1x72x1 cst_7
  have v23 : FVec Ideal S2x24x1x72x1 .f32 := divf v21 v22
  have v24 : FVec Ideal S2x24x1x72x1 .f32 := floor v23
  have cst_8 : Ideal .f32 := Scalar.ofBits .f32 0x3F800000#32
  have v25 : FVec Ideal S2x24x1x72x1 .f32 := broadcast S2x24x1x72x1 cst_8
  have v26 : FVec Ideal S2x24x1x72x1 .f32 := addf v24 v25
  have cst_9 : Ideal .f32 := Scalar.ofBits .f32 0x00000000#32
  have v27 : FVec Ideal S2x24x1x72x1 .f32 := broadcast S2x24x1x72x1 cst_9
  have v28 : IVec S2x24x1x72x1 1 := cmpf .oeq v18 v27
  have v29 : Ideal .f32 := Scalar.sitofp .f32 0#32
  have v30 : FVec Ideal S2x24x1x72x1 .f32 := broadcast S2x24x1x72x1 v29
  have v31 : FVec Ideal S2x24x1x72x1 .f32 := select v28 v30 v26
  v31

theorem pay6_eq : k0_pay6 W S M = PE (PA (k0_pay5 W S M)) := rfl

theorem PE_at (v : FVec Ideal S2x24x72 .f32) (b : Fin 2) (q : Fin 24) (j : Fin 72) :
    PE v (ix5 (n2 := 1) (n4 := 1) b q 0 j 0) = E (v (ix3 b q j)) := by
  pointwise [PE]
  have h0 : (((0#32).toInt : ℝ) : EReal) = 0 := by simp
  unfold E ex
  rw [h0]

theorem pay6_at (b : Fin 2) (q : Fin 24) (j : Fin 72) : k0_pay6 W S M (ix5 (n2 := 1) (n4 := 1) b q 0 j 0) = E (aa M W S b q j) := by
  rw [pay6_eq, PE_at, PA_at]
  unfold aa
  simp only [pay5_at]

/-- The reference's codes, from the modulated weights and the exponents. -/
def P7 (v15 : FVec Ideal S2x24x128x72x128 .f32) (v31 : FVec Ideal S2x24x1x72x1 .f32) : FVec Ideal S2x24x128x72x128 .fp8e4m3 :=
  have cst_10 : Ideal .f32 := Scalar.ofBits .f32 0x00000000#32
  have v32 : FVec Ideal S2x24x1x72x1 .f32 := broadcast S2x24x1x72x1 cst_10
  have v33 : FVec Ideal S2x24x1x72x1 .f32 := subf v32 v31
  have v34 : FVec Ideal S2x24x1x72x1 .f32 := exp2 v33
  have v35 : FVec Ideal S2x24x128x72x128 .f32 := broadcastTo S2x24x128x72x128 v34 broadcasts_S2x24x1x72x1_S2x24x128x72x128
  have v36 : FVec Ideal S2x24x128x72x128 .f32 := mulf v15 v35
  have cst_11 : Ideal .f32 := Scalar.ofBits .f32 0xC3E00000#32
  have cst_12 : Ideal .f32 := Scalar.ofBits .f32 0x43E00000#32
  have v37 : FVec Ideal S2x24x128x72x128 .f32 := broadcast S2x24x128x72x128 cst_11
  have v38 : FVec Ideal S2x24x128x72x128 .f32 := maximumf v37 v36
  have v39 : FVec Ideal S2x24x128x72x128 .f32 := broadcast S2x24x128x72x128 cst_12
  have v40 : FVec Ideal S2x24x128x72x128 .f32 := minimumf v39 v38
  have v41 : FVec Ideal S2x24x128x72x128 .fp8e4m3 := truncf .fp8e4m3 v40 bitsLt_fp8e4m3_f32
  v41

theorem pay7_eq : k0_pay7 W S M = P7 (k0_pay5 W S M) (k0_pay6 W S M) := rfl

theorem P7_at (v : FVec Ideal S2x24x128x72x128 .f32) (w : FVec Ideal S2x24x1x72x1 .f32) (b : Fin 2) (q : Fin 24) (r : Fin 128) (j : Fin 72) (l : Fin 128) :
    P7 v w (ix5 b q r j l) = min (Ideal.ofBits .f32 0x43E00000#32) (max (Ideal.ofBits .f32 0xC3E00000#32)
      (v (ix5 b q r j l) * FloatOps.exp2 (F := Ideal) (φ := .f32) (0 - w (ix5 (n2 := 1) (n4 := 1) b q 0 j 0)))) := by
  pointwise [P7]

theorem pay7_at (b : Fin 2) (q : Fin 24) (r : Fin 128) (j : Fin 72) (l : Fin 128) :
    k0_pay7 W S M (ix5 b q r j l) = codeOf (vv M W S b ⟨128 * q + r, by omega⟩ ⟨128 * j + l, by omega⟩) (aa M W S b q j) := by
  rw [pay7_eq, P7_at, pay5_at, pay6_at]
  unfold codeOf
  rw [iv_eq]

theorem e2_at (v : FVec Ideal S2x24x1x72x1 .f32) (b : Fin 2) (q : Fin 24) (j : Fin 72) :
    (shapeCast S2x24x72 (exp2 v) shapeCasts_S2x24x1x72x1_S2x24x72 : FVec Ideal S2x24x72 .f32) (ix3 b q j)
      = FloatOps.exp2 (F := Ideal) (φ := .f32) (v (ix5 (n2 := 1) (n4 := 1) b q 0 j 0)) := by
  pointwise []

theorem pay8_at (b : Fin 2) (q : Fin 24) (j : Fin 72) : k0_pay8 W S M (ix3 b q j) = sc (aa M W S b q j) :=
  (e2_at _ b q j).trans (by rw [pay6_at, sc_eq])

theorem pay1_at (v : FVec Ideal S2x24x128x72x128 .fp8e4m3) (b : Fin 2) (k : Fin 3072) (n : Fin 9216) :
    k0_pay1 v (ix3 b k n) = v (ix5 b ⟨k / 128, by omega⟩ ⟨k % 128, by omega⟩ ⟨n / 128, by omega⟩ ⟨n % 128, by omega⟩) := by
  pointwise [k0_pay1]

theorem pay2_at (v : FVec Ideal S2x24x128x72x128 .fp8e4m3) (w : FVec Ideal S2x24x72 .f32) (b : Fin 2) (k : Fin 3072) (n : Fin 9216) :
    k0_pay2 v w (ix3 b k n) = v (ix5 b ⟨k / 128, by omega⟩ ⟨k % 128, by omega⟩ ⟨n / 128, by omega⟩ ⟨n % 128, by omega⟩)
      * w (ix3 b ⟨k / 128, by omega⟩ ⟨n / 128, by omega⟩) := by
  pointwise [k0_pay2]

theorem pay3_at (v : FVec Ideal S24x128x72x128 .f32) (b : Fin 2) (n : Fin 9216) :
    k0_pay3 v Sh B (ix3 (n1 := 1) b 0 n) = (∑ k : Fin 3072, Sh (ix2 b k) * v (ix4 ⟨k / 128, by omega⟩ ⟨k % 128, by omega⟩ ⟨n / 128, by omega⟩ ⟨n % 128, by omega⟩))
      + B (ix1 n) := by
  pointwise [k0_pay3]

theorem blk (f : Fin 3072 → Fin 9216 → EReal) (k : Fin 3072) (n : Fin 9216)
    (h : 128 * (⟨k / 128, by omega⟩ : Fin 24).val + (⟨k % 128, by omega⟩ : Fin 128).val < 3072)
    (h' : 128 * (⟨n / 128, by omega⟩ : Fin 72).val + (⟨n % 128, by omega⟩ : Fin 128).val < 9216) : f ⟨_, h⟩ ⟨_, h'⟩ = f k n :=
  congrArg₂ f (Fin.ext (Nat.div_add_mod _ _)) (Fin.ext (Nat.div_add_mod _ _))

theorem store5 : k0_pay1 (k0_pay7 W S M) = T5 M W S := by
  funext y
  idx_vars y
  rw [pay1_at, pay7_at, blk (vv M W S y0)]
  rfl

theorem store6 : k0_pay8 W S M = T6 M W S := by
  funext y
  idx_vars y
  rw [pay8_at]
  rfl

theorem store7 : k0_pay2 (k0_pay7 W S M) (k0_pay8 W S M) = T7 M W S := by
  funext y
  idx_vars y
  rw [pay2_at, pay7_at, pay8_at, blk (vv M W S y0)]
  rfl

theorem store8 : k0_pay3 (k0_pay4 W S) Sh B = T8 Sh W S B := by
  funext y
  idx_vars y
  obtain rfl : y1 = 0 := Subsingleton.elim _ _
  rw [pay3_at]
  simp only [pay4_at, blk (uu W S)]
  rfl

/-! ## The arrays -/

variable (m : (ℓ : Loc nD τ sig) → Buf (Elt Ideal) ℓ)

/-- The one point's blocks are the arrays. -/
theorem idx : ∀ t : Fin cfg0.N,
    win0_0.index t = ![0, 0] ∧ win0_1.index t = ![0, 0] ∧ win0_2.index t = ![0, 0] ∧ win0_3.index t = ![0, 0] ∧ win0_4.index t = ![0]
    ∧ win0_5.index t = ![0, 0, 0] ∧ win0_6.index t = ![0, 0, 0] ∧ win0_7.index t = ![0, 0, 0] ∧ win0_8.index t = ![0, 0, 0] :=
  (by decide +kernel : ∀ t : Fin grid0.N, _)

theorem ld_W (x : Vec Ideal S3072x9216 .fp8e4m3) : View.ld x r0_0 = x := by
  frame_out

theorem ld_S (x : Vec Ideal S24x72 .f32) : View.ld x r0_1 = x := by
  frame_out

theorem ld_M (x : Vec Ideal S2x3072 .f32) : View.ld x r0_2 = x := by
  frame_out

theorem blk0 (c : Dev nD) (t : Fin cfg0.N) : (iblk m c 0 t : Vec Ideal S2x3072 .f32) = m ((c : Thread nD τ).loc main_arg0) := by
  funext y
  idx_vars y
  blk_point [iblk, V, idx t]

theorem blk1 (c : Dev nD) (t : Fin cfg0.N) : (iblk m c 1 t : Vec Ideal S2x3072 .f32) = m ((c : Thread nD τ).loc main_arg1) := by
  funext y
  idx_vars y
  blk_point [iblk, V, idx t]

theorem blk2 (c : Dev nD) (t : Fin cfg0.N) : (iblk m c 2 t : Vec Ideal S3072x9216 .fp8e4m3) = m ((c : Thread nD τ).loc main_arg2) := by
  funext y
  idx_vars y
  blk_point [iblk, V, idx t]

theorem blk3 (c : Dev nD) (t : Fin cfg0.N) : (iblk m c 3 t : Vec Ideal S24x72 .f32) = m ((c : Thread nD τ).loc main_arg3) := by
  funext y
  idx_vars y
  blk_point [iblk, V, idx t]

theorem blk4 (c : Dev nD) (t : Fin cfg0.N) : (iblk m c 4 t : Vec Ideal S9216 .f32) = m ((c : Thread nD τ).loc main_arg4) := by
  funext y
  idx_vars y
  blk_point [iblk, V, idx t]

theorem emb5 (t : Fin cfg0.N) (f : S2x3072x9216.Idx → EReal) (y : S2x3072x9216.Idx) : f y = f ((win0_5.blk t).view.emb y) := by
  idx_vars y
  blk_point [idx t]

theorem final5 (c : Dev nD) : (dats m 0 c).arrAt 5 (cfgs 0).N = T5 (m ((c : Thread nD τ).loc main_arg0)) (m ((c : Thread nD τ).loc main_arg2)) (m ((c : Thread nD τ).loc main_arg3)) := by
  refine (dats m 0 c).arrAt_eq_of_covers 5 _ (by decide +kernel) fun t _ y => ?_
  blk_simp
  rw [after0_5]
  frame_out
  unfold k0_pay9
  rw [ld_W, ld_S, ld_M, blk0, blk2, blk3, store5]
  exact emb5 t _ y

theorem emb6 (t : Fin cfg0.N) (f : S2x24x72.Idx → EReal) (y : S2x24x72.Idx) : f y = f ((win0_6.blk t).view.emb y) := by
  idx_vars y
  blk_point [idx t]

theorem final6 (c : Dev nD) : (dats m 0 c).arrAt 6 (cfgs 0).N = T6 (m ((c : Thread nD τ).loc main_arg0)) (m ((c : Thread nD τ).loc main_arg2)) (m ((c : Thread nD τ).loc main_arg3)) := by
  refine (dats m 0 c).arrAt_eq_of_covers 6 _ (by decide +kernel) fun t _ y => ?_
  blk_simp
  rw [after0_6]
  frame_out
  unfold k0_pay10
  rw [ld_W, ld_S, ld_M, blk0, blk2, blk3, store6]
  exact emb6 t _ y

theorem emb7 (t : Fin cfg0.N) (f : S2x3072x9216.Idx → EReal) (y : S2x3072x9216.Idx) : f y = f ((win0_7.blk t).view.emb y) := by
  idx_vars y
  blk_point [idx t]

theorem final7 (c : Dev nD) : (dats m 0 c).arrAt 7 (cfgs 0).N = T7 (m ((c : Thread nD τ).loc main_arg0)) (m ((c : Thread nD τ).loc main_arg2)) (m ((c : Thread nD τ).loc main_arg3)) := by
  refine (dats m 0 c).arrAt_eq_of_covers 7 _ (by decide +kernel) fun t _ y => ?_
  blk_simp
  rw [after0_7]
  frame_out
  unfold k0_pay9 k0_pay10
  rw [ld_W, ld_S, ld_M, blk0, blk2, blk3, store7]
  exact emb7 t _ y

theorem emb8 (t : Fin cfg0.N) (f : S2x1x9216.Idx → EReal) (y : S2x1x9216.Idx) : f y = f ((win0_8.blk t).view.emb y) := by
  idx_vars y
  blk_point [idx t]

theorem final8 (c : Dev nD) : (dats m 0 c).arrAt 8 (cfgs 0).N = T8 (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  frame_out
  rw [blk1, blk2, blk3, blk4, store8]
  exact emb8 t _ y

/-- The reference's run: its four arrays are the functions of the arguments, which are unchanged. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v0_0) = T5 (m ((c : Thread nD τ).loc main_arg0)) (m ((c : Thread nD τ).loc main_arg2)) (m ((c : Thread nD τ).loc main_arg3))
    ∧ r.2.mem ((c.tc : Thread nD τ).loc main_v0_1) = T6 (m ((c : Thread nD τ).loc main_arg0)) (m ((c : Thread nD τ).loc main_arg2)) (m ((c : Thread nD τ).loc main_arg3))
    ∧ r.2.mem ((c.tc : Thread nD τ).loc main_v0_2) = T7 (m ((c : Thread nD τ).loc main_arg0)) (m ((c : Thread nD τ).loc main_arg2)) (m ((c : Thread nD τ).loc main_arg3))
    ∧ r.2.mem ((c.tc : Thread nD τ).loc main_v0_3) = T8 (m ((c : Thread nD τ).loc main_arg1)) (m ((c : Thread nD τ).loc main_arg2)) (m ((c : Thread nD τ).loc main_arg3)) (m ((c : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun r h c => ⟨((h c).1 5).trans (final5 m c), ((h c).1 6).trans (final6 m c),
    ((h c).1 7).trans (final7 m c), ((h c).1 8).trans (final8 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c)))⟩) (run_main m ρ)

end Cert.WeightReferenceIdeal.WeightValue

end
-- ==== Proof.WeightTrip.lean ====
/-
A trip of the weight kernel's loop: the four blocks it codes, the entries it sets in the scales' block, and the sums it carries on.
-/
module

public import proofs.«01_k».proof.Proof.WeightPay
public import Idealize.ShloMosaic.Lib.Pipeline.ValueKit
public import Idealize.ShloMosaic.Lib.Pipeline.ReadBack

@[expose] public section

set_option maxRecDepth 16384

noncomputable section

namespace Cert.WeightIdeal.WeightValue

open Idealize.ShloMosaic Idealize.ShloMosaic.TcCoe Idealize.ShloMosaic.Tactic Idealize.SL.Sem
open Cert.WeightIdeal Cert.WeightIdeal.Gen
open Cert.ActIdeal.ActValue (ex sc iv)

/-! ## The offsets of a trip's loads and stores -/

theorem offs : ∀ k : Fin k0_t1_loop.trips,
    k0_off1 k = ![0, 128 * k.val, 0] ∧ k0_off2 k = ![128 * k.val, 0] ∧ k0_off4 k = ![0, 128 * k.val, 0] ∧ k0_off5 k = ![128 * k.val, 128]
    ∧ k0_off6 k = ![0, 128 * k.val, 128] ∧ k0_off7 k = ![128 * k.val, 256] ∧ k0_off8 k = ![0, 128 * k.val, 256] ∧ k0_off9 k = ![128 * k.val, 384]
    ∧ k0_off10 k = ![0, 128 * k.val, 384] := by decide +kernel

theorem off3 : ∀ (i : grid0.Coords) (k : Fin k0_t1_loop.trips),
    k0_off3 i k 0#32 = ![k.val, 4 * (i 1).val] ∧ k0_off3 i k 1#32 = ![k.val, 4 * (i 1).val + 1]
    ∧ k0_off3 i k 2#32 = ![k.val, 4 * (i 1).val + 2] ∧ k0_off3 i k 3#32 = ![k.val, 4 * (i 1).val + 3] := by decide +kernel

theorem arg11_eq : ∀ k : Fin k0_t1_loop.trips, trip_k0_t1.sl.arg11 k = BitVec.ofNat 32 k.val := by decide +kernel

/-! ## The blocks, as functions of the staged inputs -/

section
variable (tile : Fin 18) (x0 : S3072x512.Idx → EReal) (x1 : S24x72.Idx → EReal) (x2 x3 : S1x3072x128.Idx → EReal)

/-- The weight dequantised, at a row and a column of the tile. -/
def wq (k : Fin 3072) (n : Fin 512) : EReal := x0 (ix2 k n) * x1 (ix2 (n0 := 24) (n1 := 72) ⟨k / 128, by omega⟩ ⟨4 * tile + n / 128, by omega⟩)

/-- The modulated weight. -/
def vq (k : Fin 3072) (n : Fin 512) : EReal := (1 + x2 (ix3 (n0 := 1) 0 k ⟨n % 128, by omega⟩)) * wq tile x0 x1 k n

/-- The largest magnitude of a block of it. -/
def aq (q : Fin 24) (j : Fin 4) : EReal := am2 fun r l => vq tile x0 x1 x2 ⟨128 * q + r, by omega⟩ ⟨128 * j + l, by omega⟩

def G7 (y : S1x3072x512.Idx) : EReal := codeOf (vq tile x0 x1 x2 (y 1) (y 2)) (aq tile x0 x1 x2 ⟨(y 1).val / 128, by have := (y 1).isLt; change _ < 3072 at this; omega⟩ ⟨(y 2).val / 128, by have := (y 2).isLt; change _ < 512 at this; omega⟩)

def G9 (y : S1x3072x512.Idx) : EReal := G7 tile x0 x1 x2 y * sc (aq tile x0 x1 x2 ⟨(y 1).val / 128, by have := (y 1).isLt; change _ < 3072 at this; omega⟩ ⟨(y 2).val / 128, by have := (y 2).isLt; change _ < 512 at this; omega⟩)

/-- The shift's product with the weight. -/
def uq (k : Fin 3072) (n : Fin 512) : EReal := x3 (ix3 (n0 := 1) 0 k ⟨n % 128, by omega⟩) * wq tile x0 x1 k n
end

variable (𝒱 : Variants) (c : Dev nD) (bd : Option 𝒱.V) (i : grid0.Coords) (arg2 : Memref sig .tc .vmem S3072x512 .fp8e4m3) (harg2 : arg2.IsWhole)
  (arg3 : Memref sig .tc .smem S24x72 .f32) (harg3 : arg3.IsWhole) (arg4 : Memref sig .tc .vmem S1x3072x128 .f32) (harg4 : arg4.IsWhole)
  (arg5 : Memref sig .tc .vmem S1x3072x128 .f32) (harg5 : arg5.IsWhole) (arg6 : Memref sig .tc .vmem S1x512 .f32) (harg6 : arg6.IsWhole)
  (arg7 : Memref sig .tc .vmem S1x3072x512 .fp8e4m3) (harg7 : arg7.IsWhole) (arg8 : Memref sig .tc .vmem S1x24x128 .f32) (harg8 : arg8.IsWhole)
  (arg9 : Memref sig .tc .vmem S1x3072x512 .bf16) (harg9 : arg9.IsWhole) (arg10 : Memref sig .tc .vmem S1x1x512 .f32) (harg10 : arg10.IsWhole)
  (arg1 : BitVec 32) (v0 v1 : IVec S24x128 32) (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty) (k : Fin k0_t1_loop.trips)
  (acc : FVec Ideal S8x128 .f32 × FVec Ideal S8x128 .f32 × FVec Ideal S8x128 .f32 × FVec Ideal S8x128 .f32)
  (f7 : BufTy.Contents (Elt Ideal) arg7.view.ty) (f8 : BufTy.Contents (Elt Ideal) arg8.view.ty) (f9 : BufTy.Contents (Elt Ideal) arg9.view.ty)

/-! ## What a trip loads -/

theorem k_lt : k.val < 24 := Nat.lt_of_lt_of_le k.isLt k0_t1_abs.2.1

/-- Rows of the gain, of the shift; a block of the codes; a scalar scale. -/
def ldg (arg : Memref sig .tc .vmem S1x3072x128 .f32) (X : BufTy.Contents (Elt Ideal) arg.view.ty) : Vec Ideal S1x128x128 .f32 :=
  arg.view.readAt (Elt Ideal) (Rect.unit (s := S1x3072x128) (k0_off1 k) S1x128x128.size (Gen.k0_off1_inb k)).toLoadRect X

def ldc {off : Fin 2 → ℕ} (inb : ∀ a, off a + S128x128.size a ≤ S3072x512.size a) : Vec Ideal S128x128 .fp8e4m3 :=
  arg2.view.readAt (Elt Ideal) (Rect.unit (s := S3072x512) off S128x128.size inb).toLoadRect X2

theorem numel_pos : 0 < S1x1.numel := by decide

def lds {off : Fin 2 → ℕ} (inb : ∀ a, off a + S1x1.size a ≤ S24x72.size a) : EReal :=
  arg3.view.readAt (Elt Ideal) (Rect.unit (s := S24x72) off S1x1.size inb).toLoadRect X3 (Shape.Idx.first numel_pos)

theorem ldg_at (arg : Memref sig .tc .vmem S1x3072x128 .f32) (X : BufTy.Contents (Elt Ideal) arg.view.ty) (r l : Fin 128) :
    ldg k arg X (ix3 (n0 := 1) 0 r l) = arg.view.read (Elt Ideal) X (ix3 (n0 := 1) 0 ⟨128 * k + r, by have := k_lt k; omega⟩ l) := by
  unfold ldg
  rw [View.readAt_apply]
  congr 1
  funext a
  apply Fin.ext
  fin_cases a
  · show k0_off1 k 0 + 1 * 0 = 0; simp [offs k]
  · show k0_off1 k 1 + 1 * r.val = _; simp [offs k]
  · show k0_off1 k 2 + 1 * l.val = _; simp [offs k]

theorem ldc_at {off : Fin 2 → ℕ} (inb : ∀ a, off a + S128x128.size a ≤ S3072x512.size a) (j : Fin 4) (h : off = ![128 * k.val, 128 * j.val]) (r l : Fin 128) :
    ldc arg2 X2 inb (ix2 r l) = arg2.view.read (Elt Ideal) X2 (ix2 ⟨128 * k + r, by have := k_lt k; omega⟩ ⟨128 * j + l, by omega⟩) := by
  unfold ldc
  rw [View.readAt_apply]
  subst h
  congr 1
  funext a
  apply Fin.ext
  fin_cases a
  · show 128 * k.val + 1 * r.val = 128 * k.val + r.val; omega
  · show 128 * j.val + 1 * l.val = 128 * j.val + l.val; omega

theorem lds_at {off : Fin 2 → ℕ} (inb : ∀ a, off a + S1x1.size a ≤ S24x72.size a) (j : Fin 4) (h : off = ![k.val, 4 * (i 1).val + j.val]) :
    lds arg3 X3 inb = arg3.view.read (Elt Ideal) X3 (ix2 (n0 := 24) (n1 := 72) ⟨k, k_lt k⟩ ⟨4 * (i 1).val + j, by have := (i 1).isLt; change _ < 18 at this; omega⟩) := by
  unfold lds
  rw [View.readAt_apply]
  subst h
  congr 1
  funext a
  apply Fin.ext
  fin_cases a
  · rfl
  · rfl

/-! ## The blocks a trip codes -/

/-- A block's modulated weight. -/
def vP {off off' : Fin 2 → ℕ} (inb : ∀ a, off a + S128x128.size a ≤ S3072x512.size a) (inb' : ∀ a, off' a + S1x1.size a ≤ S24x72.size a) : FVec Ideal S128x128 .f32 :=
  k0_pay7 (ldg k arg4 X4) (ldc arg2 X2 inb) (lds arg3 X3 inb')

theorem wq_at {off off' : Fin 2 → ℕ} (inb : ∀ a, off a + S128x128.size a ≤ S3072x512.size a) (inb' : ∀ a, off' a + S1x1.size a ≤ S24x72.size a) (j : Fin 4)
    (h : off = ![128 * k.val, 128 * j.val]) (h' : off' = ![k.val, 4 * (i 1).val + j.val]) (r l : Fin 128) :
    ldc arg2 X2 inb (ix2 r l) * lds arg3 X3 inb' = wq (i 1) (arg2.view.read (Elt Ideal) X2) (arg3.view.read (Elt Ideal) X3)
      ⟨128 * k + r, by have := k_lt k; omega⟩ ⟨128 * j + l, by omega⟩ := by
  rw [ldc_at arg2 X2 k inb j h, lds_at i arg3 X3 k inb' j h']
  unfold wq
  congr 3
  · apply Fin.ext; show k.val = (128 * k.val + r.val) / 128; omega
  · apply Fin.ext; show 4 * (i 1).val + j.val = 4 * (i 1).val + (128 * j.val + l.val) / 128; omega

theorem vP_at {off off' : Fin 2 → ℕ} (inb : ∀ a, off a + S128x128.size a ≤ S3072x512.size a) (inb' : ∀ a, off' a + S1x1.size a ≤ S24x72.size a) (j : Fin 4)
    (h : off = ![128 * k.val, 128 * j.val]) (h' : off' = ![k.val, 4 * (i 1).val + j.val]) (r l : Fin 128) :
    vP arg2 arg3 arg4 X2 X3 X4 k inb inb' (ix2 r l)
      = vq (i 1) (arg2.view.read (Elt Ideal) X2) (arg3.view.read (Elt Ideal) X3) (arg4.view.read (Elt Ideal) X4)
        ⟨128 * k + r, by have := k_lt k; omega⟩ ⟨128 * j + l, by omega⟩ := by
  unfold vP
  rw [pay7_at, wq_at i arg2 arg3 X2 X3 k inb inb' j h h', ldg_at]
  unfold vq
  congr 4
  apply Fin.ext; show l.val = (128 * j.val + l.val) % 128; omega

theorem RA_vP {off off' : Fin 2 → ℕ} (inb : ∀ a, off a + S128x128.size a ≤ S3072x512.size a) (inb' : ∀ a, off' a + S1x1.size a ≤ S24x72.size a) (j : Fin 4)
    (h : off = ![128 * k.val, 128 * j.val]) (h' : off' = ![k.val, 4 * (i 1).val + j.val]) :
    RA (vP arg2 arg3 arg4 X2 X3 X4 k inb inb') (ix2 (n0 := 1) (n1 := 1) 0 0)
      = aq (i 1) (arg2.view.read (Elt Ideal) X2) (arg3.view.read (Elt Ideal) X3) (arg4.view.read (Elt Ideal) X4) ⟨k, k_lt k⟩ j := by
  rw [RA_at]
  unfold aq
  congr 1
  funext r l
  exact vP_at i arg2 arg3 arg4 X2 X3 X4 k inb inb' j h h' r l

/-- A trip's rectangle of a written block, at its rows and columns. -/
theorem emb_eq {offo : Fin 3 → ℕ} (inbo : ∀ a, offo a + S1x128x128.size a ≤ S1x3072x512.size a) (j : Fin 4) (ho : offo = ![0, 128 * k.val, 128 * j.val]) (r l : Fin 128) :
    (Rect.unit (s := S1x3072x512) offo S1x128x128.size inbo).emb (ix3 (n0 := 1) 0 r l)
      = ix3 (n0 := 1) 0 ⟨128 * k + r, by have := k_lt k; omega⟩ ⟨128 * j + l, by omega⟩ := by
  subst ho
  funext a
  apply Fin.ext
  fin_cases a
  · rfl
  · show 128 * k.val + 1 * r.val = 128 * k.val + r.val; omega
  · show 128 * j.val + 1 * l.val = 128 * j.val + l.val; omega

theorem G7_ix (x0 : S3072x512.Idx → EReal) (x1 : S24x72.Idx → EReal) (x2 : S1x3072x128.Idx → EReal) (tile : Fin 18) (j : Fin 4) (r l : Fin 128) :
    G7 tile x0 x1 x2 (ix3 (n0 := 1) 0 ⟨128 * k + r, by have := k_lt k; omega⟩ ⟨128 * j + l, by omega⟩)
      = codeOf (vq tile x0 x1 x2 ⟨128 * k + r, by have := k_lt k; omega⟩ ⟨128 * j + l, by omega⟩) (aq tile x0 x1 x2 ⟨k, k_lt k⟩ j) := by
  unfold G7
  congr 2
  · apply Fin.ext; show (128 * k.val + r.val) / 128 = k.val; omega
  · apply Fin.ext; show (128 * j.val + l.val) / 128 = j.val; omega

theorem G9_ix (x0 : S3072x512.Idx → EReal) (x1 : S24x72.Idx → EReal) (x2 : S1x3072x128.Idx → EReal) (tile : Fin 18) (j : Fin 4) (r l : Fin 128) :
    G9 tile x0 x1 x2 (ix3 (n0 := 1) 0 ⟨128 * k + r, by have := k_lt k; omega⟩ ⟨128 * j + l, by omega⟩)
      = codeOf (vq tile x0 x1 x2 ⟨128 * k + r, by have := k_lt k; omega⟩ ⟨128 * j + l, by omega⟩) (aq tile x0 x1 x2 ⟨k, k_lt k⟩ j)
        * sc (aq tile x0 x1 x2 ⟨k, k_lt k⟩ j) := by
  unfold G9
  rw [G7_ix]
  congr 3
  · apply Fin.ext; show (128 * k.val + r.val) / 128 = k.val; omega
  · apply Fin.ext; show (128 * j.val + l.val) / 128 = j.val; omega

theorem piece7 {off off' : Fin 2 → ℕ} {offo : Fin 3 → ℕ} (inb : ∀ a, off a + S128x128.size a ≤ S3072x512.size a) (inb' : ∀ a, off' a + S1x1.size a ≤ S24x72.size a)
    (inbo : ∀ a, offo a + S1x128x128.size a ≤ S1x3072x512.size a) (j : Fin 4)
    (h : off = ![128 * k.val, 128 * j.val]) (h' : off' = ![k.val, 4 * (i 1).val + j.val]) (ho : offo = ![0, 128 * k.val, 128 * j.val]) (y : S1x128x128.Idx) :
    codeP (vP arg2 arg3 arg4 X2 X3 X4 k inb inb') (RA (vP arg2 arg3 arg4 X2 X3 X4 k inb inb')) y
      = G7 (i 1) (arg2.view.read (Elt Ideal) X2) (arg3.view.read (Elt Ideal) X3) (arg4.view.read (Elt Ideal) X4)
        ((Rect.unit (s := S1x3072x512) offo S1x128x128.size inbo).emb y) := by
  idx_vars y
  obtain rfl : y0 = 0 := Subsingleton.elim _ _
  rw [codeP_at, vP_at i arg2 arg3 arg4 X2 X3 X4 k inb inb' j h h', RA_vP i arg2 arg3 arg4 X2 X3 X4 k inb inb' j h h', emb_eq k inbo j ho]
  exact (G7_ix k _ _ _ _ j y1 y2).symm

theorem piece9 {off off' : Fin 2 → ℕ} {offo : Fin 3 → ℕ} (inb : ∀ a, off a + S128x128.size a ≤ S3072x512.size a) (inb' : ∀ a, off' a + S1x1.size a ≤ S24x72.size a)
    (inbo : ∀ a, offo a + S1x128x128.size a ≤ S1x3072x512.size a) (j : Fin 4)
    (h : off = ![128 * k.val, 128 * j.val]) (h' : off' = ![k.val, 4 * (i 1).val + j.val]) (ho : offo = ![0, 128 * k.val, 128 * j.val]) (y : S1x128x128.Idx) :
    wbP (vP arg2 arg3 arg4 X2 X3 X4 k inb inb') (RA (vP arg2 arg3 arg4 X2 X3 X4 k inb inb')) y
      = G9 (i 1) (arg2.view.read (Elt Ideal) X2) (arg3.view.read (Elt Ideal) X3) (arg4.view.read (Elt Ideal) X4)
        ((Rect.unit (s := S1x3072x512) offo S1x128x128.size inbo).emb y) := by
  idx_vars y
  obtain rfl : y0 = 0 := Subsingleton.elim _ _
  rw [wbP_at, vP_at i arg2 arg3 arg4 X2 X3 X4 k inb inb' j h h', RA_vP i arg2 arg3 arg4 X2 X3 X4 k inb inb' j h h', emb_eq k inbo j ho]
  exact (G9_ix k _ _ _ _ j y1 y2).symm

theorem L7_eq : (tripL_k0_t1 (F := Ideal) 𝒱 c bd i arg2 harg2 arg3 harg3 arg4 harg4 arg5 harg5 arg6 harg6 arg7 harg7 arg8 harg8 arg9 harg9 arg10 harg10 arg1 v0 v1 X2 X3 X4 X5 k acc f7 f8 f9).1 =
    [⟨Rect.unit (s := S1x3072x512) (k0_off10 k) S1x128x128.size (Gen.k0_off10_inb k), k0_pay50 (k0_pay43 (k0_pay3 (ldg k arg4 X4)) (ldc arg2 X2 (Gen.k0_off9_inb k)) (lds arg3 X3 (Gen.k0_off3_inb i k 3))) (k0_pay45 (k0_pay3 (ldg k arg4 X4)) (ldc arg2 X2 (Gen.k0_off9_inb k)) (lds arg3 X3 (Gen.k0_off3_inb i k 3))) (k0_pay46 (k0_pay3 (ldg k arg4 X4)) (ldc arg2 X2 (Gen.k0_off9_inb k)) (lds arg3 X3 (Gen.k0_off3_inb i k 3)))⟩,
      ⟨Rect.unit (s := S1x3072x512) (k0_off8 k) S1x128x128.size (Gen.k0_off8_inb k), k0_pay37 (k0_pay31 (k0_pay3 (ldg k arg4 X4)) (ldc arg2 X2 (Gen.k0_off7_inb k)) (lds arg3 X3 (Gen.k0_off3_inb i k 2)))⟩,
      ⟨Rect.unit (s := S1x3072x512) (k0_off6 k) S1x128x128.size (Gen.k0_off6_inb k), k0_pay26 (k0_pay25 (k0_pay3 (ldg k arg4 X4)) (ldc arg2 X2 (Gen.k0_off5_inb k)) (lds arg3 X3 (Gen.k0_off3_inb i k 1)))⟩,
      ⟨Rect.unit (s := S1x3072x512) (k0_off4 k) S1x128x128.size (Gen.k0_off4_inb k), k0_pay15 (k0_pay7 (ldg k arg4 X4) (ldc arg2 X2 (Gen.k0_off2_inb k)) (lds arg3 X3 (Gen.k0_off3_inb i k 0))) (k0_pay9 (ldg k arg4 X4) (ldc arg2 X2 (Gen.k0_off2_inb k)) (lds arg3 X3 (Gen.k0_off3_inb i k 0))) (k0_pay10 (ldg k arg4 X4) (ldc arg2 X2 (Gen.k0_off2_inb k)) (lds arg3 X3 (Gen.k0_off3_inb i k 0)))⟩] := by
  unfold tripL_k0_t1 trip_k0_t1
  rfl

theorem L9_eq : (tripL_k0_t1 (F := Ideal) 𝒱 c bd i arg2 harg2 arg3 harg3 arg4 harg4 arg5 harg5 arg6 harg6 arg7 harg7 arg8 harg8 arg9 harg9 arg10 harg10 arg1 v0 v1 X2 X3 X4 X5 k acc f7 f8 f9).2.2 =
    [⟨Rect.unit (s := S1x3072x512) (k0_off10 k) S1x128x128.size (Gen.k0_off10_inb k), k0_pay51 (k0_pay43 (k0_pay3 (ldg k arg4 X4)) (ldc arg2 X2 (Gen.k0_off9_inb k)) (lds arg3 X3 (Gen.k0_off3_inb i k 3))) (k0_pay45 (k0_pay3 (ldg k arg4 X4)) (ldc arg2 X2 (Gen.k0_off9_inb k)) (lds arg3 X3 (Gen.k0_off3_inb i k 3))) (k0_pay46 (k0_pay3 (ldg k arg4 X4)) (ldc arg2 X2 (Gen.k0_off9_inb k)) (lds arg3 X3 (Gen.k0_off3_inb i k 3)))⟩,
      ⟨Rect.unit (s := S1x3072x512) (k0_off8 k) S1x128x128.size (Gen.k0_off8_inb k), k0_pay38 (k0_pay31 (k0_pay3 (ldg k arg4 X4)) (ldc arg2 X2 (Gen.k0_off7_inb k)) (lds arg3 X3 (Gen.k0_off3_inb i k 2)))⟩,
      ⟨Rect.unit (s := S1x3072x512) (k0_off6 k) S1x128x128.size (Gen.k0_off6_inb k), k0_pay27 (k0_pay24 (k0_pay3 (ldg k arg4 X4)) (ldc arg2 X2 (Gen.k0_off5_inb k)) (lds arg3 X3 (Gen.k0_off3_inb i k 1))) (k0_pay25 (k0_pay3 (ldg k arg4 X4)) (ldc arg2 X2 (Gen.k0_off5_inb k)) (lds arg3 X3 (Gen.k0_off3_inb i k 1)))⟩,
      ⟨Rect.unit (s := S1x3072x512) (k0_off4 k) S1x128x128.size (Gen.k0_off4_inb k), k0_pay16 (k0_pay7 (ldg k arg4 X4) (ldc arg2 X2 (Gen.k0_off2_inb k)) (lds arg3 X3 (Gen.k0_off3_inb i k 0))) (k0_pay9 (ldg k arg4 X4) (ldc arg2 X2 (Gen.k0_off2_inb k)) (lds arg3 X3 (Gen.k0_off3_inb i k 0))) (k0_pay10 (ldg k arg4 X4) (ldc arg2 X2 (Gen.k0_off2_inb k)) (lds arg3 X3 (Gen.k0_off3_inb i k 0))) (k0_pay11 (ldg k arg4 X4) (ldc arg2 X2 (Gen.k0_off2_inb k)) (lds arg3 X3 (Gen.k0_off3_inb i k 0))) k0_pay12⟩] := by
  unfold tripL_k0_t1 trip_k0_t1
  rfl

theorem R_eq : (tripR_k0_t1 (F := Ideal) 𝒱 c bd i arg2 harg2 arg3 harg3 arg4 harg4 arg5 harg5 arg6 harg6 arg7 harg7 arg8 harg8 arg9 harg9 arg10 harg10 arg1 v0 v1 X2 X3 X4 X5 k acc f7 f8 f9) =
    (k0_pay6 acc.1 (ldg k arg5 X5) (ldc arg2 X2 (Gen.k0_off2_inb k)) (lds arg3 X3 (Gen.k0_off3_inb i k 0)),
      k0_pay19 acc.2.1 (k0_pay4 (ldg k arg5 X5)) (ldc arg2 X2 (Gen.k0_off5_inb k)) (lds arg3 X3 (Gen.k0_off3_inb i k 1)),
      k0_pay30 acc.2.2.1 (k0_pay4 (ldg k arg5 X5)) (ldc arg2 X2 (Gen.k0_off7_inb k)) (lds arg3 X3 (Gen.k0_off3_inb i k 2)),
      k0_pay42 acc.2.2.2 (k0_pay4 (ldg k arg5 X5)) (ldc arg2 X2 (Gen.k0_off9_inb k)) (lds arg3 X3 (Gen.k0_off3_inb i k 3))) := by
  unfold tripR_k0_t1 trip_k0_t1
  rfl

/-- The scales' block after each of a trip's four stores. -/
def hs0 : FVec Ideal S1x24x128 .f32 := k0_pay17 arg1 v0 v1 (trip_k0_t1.sl.arg11 k) (k0_pay9 (ldg k arg4 X4) (ldc arg2 X2 (Gen.k0_off2_inb k)) (lds arg3 X3 (Gen.k0_off3_inb i k 0))) (k0_pay11 (ldg k arg4 X4) (ldc arg2 X2 (Gen.k0_off2_inb k)) (lds arg3 X3 (Gen.k0_off3_inb i k 0))) k0_pay12
  (arg8.view.readAt (Elt Ideal) (Rect.unit (s := S1x24x128) ![0, 0, 0] S1x24x128.size inb_S1x24x128_S1x24x128_0_0_0).toLoadRect f8)
def hs1 (x : FVec Ideal S1x24x128 .f32) : FVec Ideal S1x24x128 .f32 := k0_pay28 arg1 v0 v1 (trip_k0_t1.sl.arg11 k) (k0_pay24 (k0_pay3 (ldg k arg4 X4)) (ldc arg2 X2 (Gen.k0_off5_inb k)) (lds arg3 X3 (Gen.k0_off3_inb i k 1))) x
def hs2 (x : FVec Ideal S1x24x128 .f32) : FVec Ideal S1x24x128 .f32 := k0_pay40 arg1 v0 v1 (k0_pay35 (k0_pay31 (k0_pay3 (ldg k arg4 X4)) (ldc arg2 X2 (Gen.k0_off7_inb k)) (lds arg3 X3 (Gen.k0_off3_inb i k 2)))) (k0_pay39 (trip_k0_t1.sl.arg11 k)) x
def hs3 (x : FVec Ideal S1x24x128 .f32) : FVec Ideal S1x24x128 .f32 := k0_pay58 (k0_pay52 arg1 v0 v1 (trip_k0_t1.sl.arg11 k) (k0_pay45 (k0_pay3 (ldg k arg4 X4)) (ldc arg2 X2 (Gen.k0_off9_inb k)) (lds arg3 X3 (Gen.k0_off3_inb i k 3))) (k0_pay46 (k0_pay3 (ldg k arg4 X4)) (ldc arg2 X2 (Gen.k0_off9_inb k)) (lds arg3 X3 (Gen.k0_off3_inb i k 3))) x)

/-- A store of the whole block, over the stores before it. -/
abbrev st8 (w : FVec Ideal S1x24x128 .f32) (L : List (View.Piece (Elt Ideal) S1x24x128 .f32)) : List (View.Piece (Elt Ideal) S1x24x128 .f32) := ⟨Rect.unit (s := S1x24x128) ![0, 0, 0] S1x24x128.size inb_S1x24x128_S1x24x128_0_0_0, w⟩ :: L
abbrev rc8 (L : List (View.Piece (Elt Ideal) S1x24x128 .f32)) : Vec Ideal S1x24x128 .f32 := arg8.view.readCov L (Rect.unit (s := S1x24x128) ![0, 0, 0] S1x24x128.size inb_S1x24x128_S1x24x128_0_0_0).toLoadRect

def l0 := st8 (hs0 i arg2 arg3 arg4 arg8 arg1 v0 v1 X2 X3 X4 k f8) []
def l1 := st8 (hs1 i arg2 arg3 arg4 arg1 v0 v1 X2 X3 X4 k (rc8 arg8 (l0 i arg2 arg3 arg4 arg8 arg1 v0 v1 X2 X3 X4 k f8))) (l0 i arg2 arg3 arg4 arg8 arg1 v0 v1 X2 X3 X4 k f8)
def l2 := st8 (hs2 i arg2 arg3 arg4 arg1 v0 v1 X2 X3 X4 k (rc8 arg8 (l1 i arg2 arg3 arg4 arg8 arg1 v0 v1 X2 X3 X4 k f8))) (l1 i arg2 arg3 arg4 arg8 arg1 v0 v1 X2 X3 X4 k f8)
def l3 := st8 (hs3 i arg2 arg3 arg4 arg1 v0 v1 X2 X3 X4 k (rc8 arg8 (l2 i arg2 arg3 arg4 arg8 arg1 v0 v1 X2 X3 X4 k f8))) (l2 i arg2 arg3 arg4 arg8 arg1 v0 v1 X2 X3 X4 k f8)

theorem L8_eq : (tripL_k0_t1 (F := Ideal) 𝒱 c bd i arg2 harg2 arg3 harg3 arg4 harg4 arg5 harg5 arg6 harg6 arg7 harg7 arg8 harg8 arg9 harg9 arg10 harg10 arg1 v0 v1 X2 X3 X4 X5 k acc f7 f8 f9).2.1 = l3 i arg2 arg3 arg4 arg8 arg1 v0 v1 X2 X3 X4 k f8 := by
  unfold tripL_k0_t1 trip_k0_t1
  rfl

theorem emb8 (y : S1x24x128.Idx) : (Rect.unit (s := S1x24x128) ![0, 0, 0] S1x24x128.size inb_S1x24x128_S1x24x128_0_0_0).emb y = y := by
  funext a
  apply Fin.ext
  show _ + 1 * (y a).val = (y a).val
  fin_cases a <;> exact (Nat.zero_add _).trans (Nat.one_mul _)

theorem read_st8 (w : FVec Ideal S1x24x128 .f32) (L : List (View.Piece (Elt Ideal) S1x24x128 .f32)) :
    arg8.view.read (Elt Ideal) (arg8.view.writes (Elt Ideal) f8 (st8 w L)) = w := by
  funext y
  refine View.read_writes_cons_hit_of_coords (s := S1x24x128) arg8.view f8 (Rect.unit (s := S1x24x128) ![0, 0, 0] S1x24x128.size inb_S1x24x128_S1x24x128_0_0_0) w L y y fun a => ?_
  match a with
  | ⟨0, _⟩ => exact ((Nat.zero_add _).trans (Nat.one_mul _)).symm
  | ⟨1, _⟩ => exact ((Nat.zero_add _).trans (Nat.one_mul _)).symm
  | ⟨2, _⟩ => exact ((Nat.zero_add _).trans (Nat.one_mul _)).symm

theorem rc8_st8 (w : FVec Ideal S1x24x128 .f32) (L : List (View.Piece (Elt Ideal) S1x24x128 .f32)) : rc8 arg8 (st8 w L) = w := by
  funext y
  show arg8.view.read (Elt Ideal) (arg8.view.writes (Elt Ideal) arg8.view.junk (st8 w L)) ((Rect.unit (s := S1x24x128) ![0, 0, 0] S1x24x128.size inb_S1x24x128_S1x24x128_0_0_0).emb y) = _
  rw [emb8, read_st8]

theorem pieces7 : View.PiecesOf (Val := Elt Ideal) (e := .fp8e4m3) (G7 (i 1) (arg2.view.read (Elt Ideal) X2) (arg3.view.read (Elt Ideal) X3) (arg4.view.read (Elt Ideal) X4))
    (tripL_k0_t1 (F := Ideal) 𝒱 c bd i arg2 harg2 arg3 harg3 arg4 harg4 arg5 harg5 arg6 harg6 arg7 harg7 arg8 harg8 arg9 harg9 arg10 harg10 arg1 v0 v1 X2 X3 X4 X5 k acc f7 f8 f9).1 := by
  rw [L7_eq, code3, code2, code1, code0]
  simp only [View.PiecesOf]
  obtain ⟨_, o2, o4, o5, o6, o7, o8, o9, o10⟩ := offs k
  obtain ⟨s0, s1, s2, s3⟩ := off3 i k
  exact ⟨piece7 i arg2 arg3 arg4 X2 X3 X4 k (Gen.k0_off9_inb k) (Gen.k0_off3_inb i k 3) (Gen.k0_off10_inb k) 3 o9 s3 o10,
    piece7 i arg2 arg3 arg4 X2 X3 X4 k (Gen.k0_off7_inb k) (Gen.k0_off3_inb i k 2) (Gen.k0_off8_inb k) 2 o7 s2 o8,
    piece7 i arg2 arg3 arg4 X2 X3 X4 k (Gen.k0_off5_inb k) (Gen.k0_off3_inb i k 1) (Gen.k0_off6_inb k) 1 o5 s1 o6,
    piece7 i arg2 arg3 arg4 X2 X3 X4 k (Gen.k0_off2_inb k) (Gen.k0_off3_inb i k 0) (Gen.k0_off4_inb k) 0 o2 s0 o4, trivial⟩

theorem pieces9 : View.PiecesOf (Val := Elt Ideal) (e := .bf16) (G9 (i 1) (arg2.view.read (Elt Ideal) X2) (arg3.view.read (Elt Ideal) X3) (arg4.view.read (Elt Ideal) X4))
    (tripL_k0_t1 (F := Ideal) 𝒱 c bd i arg2 harg2 arg3 harg3 arg4 harg4 arg5 harg5 arg6 harg6 arg7 harg7 arg8 harg8 arg9 harg9 arg10 harg10 arg1 v0 v1 X2 X3 X4 X5 k acc f7 f8 f9).2.2 := by
  rw [L9_eq, wb3, wb2, wb1, wb0]
  simp only [View.PiecesOf]
  obtain ⟨_, o2, o4, o5, o6, o7, o8, o9, o10⟩ := offs k
  obtain ⟨s0, s1, s2, s3⟩ := off3 i k
  exact ⟨piece9 i arg2 arg3 arg4 X2 X3 X4 k (Gen.k0_off9_inb k) (Gen.k0_off3_inb i k 3) (Gen.k0_off10_inb k) 3 o9 s3 o10,
    piece9 i arg2 arg3 arg4 X2 X3 X4 k (Gen.k0_off7_inb k) (Gen.k0_off3_inb i k 2) (Gen.k0_off8_inb k) 2 o7 s2 o8,
    piece9 i arg2 arg3 arg4 X2 X3 X4 k (Gen.k0_off5_inb k) (Gen.k0_off3_inb i k 1) (Gen.k0_off6_inb k) 1 o5 s1 o6,
    piece9 i arg2 arg3 arg4 X2 X3 X4 k (Gen.k0_off2_inb k) (Gen.k0_off3_inb i k 0) (Gen.k0_off4_inb k) 0 o2 s0 o4, trivial⟩

theorem row_hit (q : Fin 24) : BitVec.ofNat 32 q.val = trip_k0_t1.sl.arg11 k ↔ q.val = k.val := by
  have := k_lt k
  rw [arg11_eq]
  constructor
  · intro h
    have e := congrArg BitVec.toNat h
    simp only [BitVec.toNat_ofNat] at e
    omega
  · intro h; rw [h]

theorem lane_hit (l : Fin 128) (t : ℕ) (ht : t < 18) (j : ℕ) (hj : j < 4) :
    BitVec.ofNat 32 l.val = BitVec.ofNat 32 t * 4#32 + BitVec.ofNat 32 j ↔ l.val = 4 * t + j := by
  constructor
  · intro h
    have e := congrArg BitVec.toNat h
    simp only [BitVec.toNat_ofNat, BitVec.toNat_mul, BitVec.toNat_add] at e
    omega
  · intro h
    apply BitVec.eq_of_toNat_eq
    simp only [BitVec.toNat_ofNat, BitVec.toNat_mul, BitVec.toNat_add]
    omega

theorem sc_vP {off off' : Fin 2 → ℕ} (inb : ∀ a, off a + S128x128.size a ≤ S3072x512.size a) (inb' : ∀ a, off' a + S1x1.size a ≤ S24x72.size a) (j : Fin 4)
    (h : off = ![128 * k.val, 128 * j.val]) (h' : off' = ![k.val, 4 * (i 1).val + j.val]) :
    scP (RA (k0_pay7 (ldg k arg4 X4) (ldc arg2 X2 inb) (lds arg3 X3 inb'))) (ix2 (n0 := 1) (n1 := 1) 0 0)
      = sc (aq (i 1) (arg2.view.read (Elt Ideal) X2) (arg3.view.read (Elt Ideal) X3) (arg4.view.read (Elt Ideal) X4) ⟨k, k_lt k⟩ j) :=
  (scP_at _).trans (congrArg sc (RA_vP i arg2 arg3 arg4 X2 X3 X4 k inb inb' j h h'))

/-- A trip's four stores of the scales' block set the four entries of its row and of the tile. -/
theorem read8 (q : Fin 24) (l : Fin 128) :
    arg8.view.read (Elt Ideal) (arg8.view.writes (Elt Ideal) f8 (tripL_k0_t1 (F := Ideal) 𝒱 c bd i arg2 harg2 arg3 harg3 arg4 harg4 arg5 harg5 arg6 harg6 arg7 harg7 arg8 harg8 arg9 harg9 arg10 harg10 (BitVec.ofNat 32 (i 1).val) (iota .tc S24x128 32 [0] iota_S24x128_d0_w32) (iota .tc S24x128 32 [1] iota_S24x128_d1_w32) X2 X3 X4 X5 k acc f7 f8 f9).2.1) (ix3 (n0 := 1) 0 q l)
      = if q.val = k.val ∧ l.val / 4 = (i 1).val then
          sc (aq (i 1) (arg2.view.read (Elt Ideal) X2) (arg3.view.read (Elt Ideal) X3) (arg4.view.read (Elt Ideal) X4) ⟨k, k_lt k⟩ ⟨l % 4, by omega⟩)
        else arg8.view.read (Elt Ideal) f8 (ix3 (n0 := 1) 0 q l) := by
  rw [L8_eq]
  unfold l3
  rw [read_st8]
  unfold l2
  rw [rc8_st8]
  unfold l1
  rw [rc8_st8]
  unfold l0
  rw [rc8_st8]
  unfold hs3 hs2 hs1 hs0
  rw [hit3, hit2, hit1, hit0, hitP_at, hitP_at, hitP_at, hitP_at]
  obtain ⟨_, o2, o4, o5, o6, o7, o8, o9, o10⟩ := offs k
  obtain ⟨s0, s1, s2, s3⟩ := off3 i k
  have hi : (i 1).val < 18 := (i 1).isLt
  rw [sc_vP i arg2 arg3 arg4 X2 X3 X4 k _ _ 3 o9 s3, sc_vP i arg2 arg3 arg4 X2 X3 X4 k _ _ 2 o7 s2, sc_vP i arg2 arg3 arg4 X2 X3 X4 k _ _ 1 o5 s1,
    sc_vP i arg2 arg3 arg4 X2 X3 X4 k _ _ 0 o2 s0, View.readAt_apply]
  have e8 := emb8 (ix3 (n0 := 1) 0 q l)
  rw [show (Rect.unit (s := S1x24x128) ![0, 0, 0] S1x24x128.size inb_S1x24x128_S1x24x128_0_0_0).toLoadRect.idx (ix3 (n0 := 1) 0 q l) = ix3 (n0 := 1) 0 q l from e8]
  simp only [row_hit k q, lane_hit l _ hi 0 (by omega), lane_hit l _ hi 1 (by omega), lane_hit l _ hi 2 (by omega), lane_hit l _ hi 3 (by omega)]
  generalize arg8.view.read (Elt Ideal) f8 (ix3 (n0 := 1) 0 q l) = old
  have hl := Nat.div_add_mod l.val 4
  by_cases hq : q.val = k.val
  · by_cases ht : l.val / 4 = (i 1).val
    · have hm : l.val % 4 < 4 := by omega
      have key : ∀ j : Fin 4, l.val % 4 = j.val →
          sc (aq (i 1) (arg2.view.read (Elt Ideal) X2) (arg3.view.read (Elt Ideal) X3) (arg4.view.read (Elt Ideal) X4) ⟨k, k_lt k⟩ j)
            = sc (aq (i 1) (arg2.view.read (Elt Ideal) X2) (arg3.view.read (Elt Ideal) X3) (arg4.view.read (Elt Ideal) X4) ⟨k, k_lt k⟩ ⟨l.val % 4, hm⟩) :=
        fun j h => congrArg (fun j => sc (aq (i 1) (arg2.view.read (Elt Ideal) X2) (arg3.view.read (Elt Ideal) X3) (arg4.view.read (Elt Ideal) X4) ⟨k, k_lt k⟩ j)) (Fin.ext h.symm)
      rw [if_pos (show q.val = k.val ∧ l.val / 4 = (i 1).val from ⟨hq, ht⟩)]
      by_cases h3 : l.val = 4 * (i 1).val + 3
      · rw [if_pos ⟨hq, h3⟩]; exact key 3 (by show _ = 3; omega)
      rw [if_neg (fun h => h3 h.2)]
      by_cases h2 : l.val = 4 * (i 1).val + 2
      · rw [if_pos ⟨hq, h2⟩]; exact key 2 (by show _ = 2; omega)
      rw [if_neg (fun h => h2 h.2)]
      by_cases h1 : l.val = 4 * (i 1).val + 1
      · rw [if_pos ⟨hq, h1⟩]; exact key 1 (by show _ = 1; omega)
      rw [if_neg (fun h => h1 h.2), if_pos ⟨hq, by omega⟩]
      exact key 0 (by show _ = 0; omega)
    · rw [if_neg (show ¬(q.val = k.val ∧ l.val / 4 = (i 1).val) from fun h => ht h.2), if_neg (fun h => ht (by omega)), if_neg (fun h => ht (by omega)),
        if_neg (fun h => ht (by omega)), if_neg (fun h => ht (by omega))]
  · rw [if_neg (show ¬(q.val = k.val ∧ l.val / 4 = (i 1).val) from fun h => hq h.1), if_neg (fun h => hq h.1), if_neg (fun h => hq h.1), if_neg (fun h => hq h.1),
      if_neg (fun h => hq h.1)]

theorem acc_at {off off' : Fin 2 → ℕ} (inb : ∀ a, off a + S128x128.size a ≤ S3072x512.size a) (inb' : ∀ a, off' a + S1x1.size a ≤ S24x72.size a) (j : Fin 4)
    (h : off = ![128 * k.val, 128 * j.val]) (h' : off' = ![k.val, 4 * (i 1).val + j.val]) (a : FVec Ideal S8x128 .f32) (r : Fin 8) (l : Fin 128) :
    k0_pay6 a (ldg k arg5 X5) (ldc arg2 X2 inb) (lds arg3 X3 inb') (ix2 r l)
      = a (ix2 r l) + ∑ p : Fin 16, uq (i 1) (arg2.view.read (Elt Ideal) X2) (arg3.view.read (Elt Ideal) X3) (arg5.view.read (Elt Ideal) X5)
        ⟨128 * k + (p * 8 + r), by have := k_lt k; omega⟩ ⟨128 * j + l, by omega⟩ := by
  rw [pay6_at]
  congr 1
  refine Finset.sum_congr rfl fun p _ => ?_
  rw [wq_at i arg2 arg3 X2 X3 k inb inb' j h h', ldg_at]
  unfold uq
  congr 3
  apply Fin.ext; show l.val = (128 * j.val + l.val) % 128; omega

/-- One of the four sums the loop carries. -/
def cmp (a : FVec Ideal S8x128 .f32 × FVec Ideal S8x128 .f32 × FVec Ideal S8x128 .f32 × FVec Ideal S8x128 .f32) : Fin 4 → FVec Ideal S8x128 .f32 :=
  ![a.1, a.2.1, a.2.2.1, a.2.2.2]

theorem R_at (j : Fin 4) (r : Fin 8) (l : Fin 128) :
    cmp (tripR_k0_t1 (F := Ideal) 𝒱 c bd i arg2 harg2 arg3 harg3 arg4 harg4 arg5 harg5 arg6 harg6 arg7 harg7 arg8 harg8 arg9 harg9 arg10 harg10 arg1 v0 v1 X2 X3 X4 X5 k acc f7 f8 f9) j (ix2 r l)
      = cmp acc j (ix2 r l) + ∑ p : Fin 16, uq (i 1) (arg2.view.read (Elt Ideal) X2) (arg3.view.read (Elt Ideal) X3) (arg5.view.read (Elt Ideal) X5)
        ⟨128 * k + (p * 8 + r), by have := k_lt k; omega⟩ ⟨128 * j + l, by omega⟩ := by
  rw [R_eq, acc1, acc2, acc3]
  obtain ⟨_, o2, o4, o5, o6, o7, o8, o9, o10⟩ := offs k
  obtain ⟨s0, s1, s2, s3⟩ := off3 i k
  fin_cases j
  · exact acc_at i arg2 arg3 arg5 X2 X3 X5 k _ _ 0 o2 s0 _ r l
  · exact acc_at i arg2 arg3 arg5 X2 X3 X5 k _ _ 1 o5 s1 _ r l
  · exact acc_at i arg2 arg3 arg5 X2 X3 X5 k _ _ 2 o7 s2 _ r l
  · exact acc_at i arg2 arg3 arg5 X2 X3 X5 k _ _ 3 o9 s3 _ r l

end Cert.WeightIdeal.WeightValue

end
-- ==== Proof.WeightLoop.lean ====
/-
The weight kernel's loop and a point of its grid: what a point leaves in each output's buffer.
-/
module

public import proofs.«01_k».proof.Proof.WeightTrip
public import proofs.«01_k».proof.Proof.WeightFrame
public import proofs.«01_k».proof.Proof.ActValue
public import Idealize.ShloMosaic.Lib.Pipeline.ValueKit
public import Idealize.ShloMosaic.Lib.Pipeline.ReadBack

@[expose] public section

set_option maxRecDepth 16384

noncomputable section

namespace Cert.WeightIdeal.WeightValue

open Idealize.ShloMosaic Idealize.ShloMosaic.TcCoe Idealize.ShloMosaic.Tactic Idealize.SL.Sem
open Cert.WeightIdeal Cert.WeightIdeal.Gen
open Cert.ActIdeal.ActValue (ex sc iv piecesOf_append)

theorem trips_eq : k0_t1_loop.trips = 24 := by decide +kernel

section
variable (𝒱 : Variants) (c : Dev nD) (bd : Option 𝒱.V) (i : grid0.Coords) (arg2 : Memref sig .tc .vmem S3072x512 .fp8e4m3) (harg2 : arg2.IsWhole)
  (arg3 : Memref sig .tc .smem S24x72 .f32) (harg3 : arg3.IsWhole) (arg4 : Memref sig .tc .vmem S1x3072x128 .f32) (harg4 : arg4.IsWhole)
  (arg5 : Memref sig .tc .vmem S1x3072x128 .f32) (harg5 : arg5.IsWhole) (arg6 : Memref sig .tc .vmem S1x512 .f32) (harg6 : arg6.IsWhole)
  (arg7 : Memref sig .tc .vmem S1x3072x512 .fp8e4m3) (harg7 : arg7.IsWhole) (arg8 : Memref sig .tc .vmem S1x24x128 .f32) (harg8 : arg8.IsWhole)
  (arg9 : Memref sig .tc .vmem S1x3072x512 .bf16) (harg9 : arg9.IsWhole) (arg10 : Memref sig .tc .vmem S1x1x512 .f32) (harg10 : arg10.IsWhole)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)
  (f7 : BufTy.Contents (Elt Ideal) arg7.view.ty) (f8 : BufTy.Contents (Elt Ideal) arg8.view.ty) (f9 : BufTy.Contents (Elt Ideal) arg9.view.ty)

/-- The loop's state before trip `n`. -/
abbrev stN (n : ℕ) :=
  st_k0_t1 (F := Ideal) 𝒱 c bd i arg2 harg2 arg3 harg3 arg4 harg4 arg5 harg5 arg6 harg6 arg7 harg7 arg8 harg8 arg9 harg9 arg10 harg10
    (BitVec.ofNat 32 (i 1).val) (iota .tc S24x128 32 [0] iota_S24x128_d0_w32) (iota .tc S24x128 32 [1] iota_S24x128_d1_w32)
    X2 X3 X4 X5 f7 f8 f9 (k0_pay54, k0_pay55, k0_pay56, k0_pay57) n

theorem zero_at (j : Fin 4) (r : Fin 8) (l : Fin 128) : cmp (k0_pay54 (F := Ideal), k0_pay55 (F := Ideal), k0_pay56 (F := Ideal), k0_pay57 (F := Ideal)) j (ix2 r l) = 0 := by
  fin_cases j <;> exact Ideal.ofBits_zero_f32

/-- One trip's part of a sum. -/
def part (x0 : S3072x512.Idx → EReal) (x1 : S24x72.Idx → EReal) (x3 : S1x3072x128.Idx → EReal) (tile : Fin 18) (j : Fin 4) (r : Fin 8) (l : Fin 128) (q : ℕ) : EReal :=
  if h : q < 24 then ∑ p : Fin 16, uq tile x0 x1 x3 ⟨128 * q + (p * 8 + r), by omega⟩ ⟨128 * j + l, by omega⟩ else 0

theorem st_inv (n : ℕ) (hn : n ≤ k0_t1_loop.trips) :
    View.PiecesOf (Val := Elt Ideal) (e := .fp8e4m3) (G7 (i 1) (arg2.view.read (Elt Ideal) X2) (arg3.view.read (Elt Ideal) X3) (arg4.view.read (Elt Ideal) X4)) (stN 𝒱 c bd i arg2 harg2 arg3 harg3 arg4 harg4 arg5 harg5 arg6 harg6 arg7 harg7 arg8 harg8 arg9 harg9 arg10 harg10 X2 X3 X4 X5 f7 f8 f9 n).2.1
    ∧ View.PiecesOf (Val := Elt Ideal) (e := .bf16) (G9 (i 1) (arg2.view.read (Elt Ideal) X2) (arg3.view.read (Elt Ideal) X3) (arg4.view.read (Elt Ideal) X4)) (stN 𝒱 c bd i arg2 harg2 arg3 harg3 arg4 harg4 arg5 harg5 arg6 harg6 arg7 harg7 arg8 harg8 arg9 harg9 arg10 harg10 X2 X3 X4 X5 f7 f8 f9 n).2.2.2
    ∧ (∀ (j : Fin 4) (r : Fin 8) (l : Fin 128), cmp (stN 𝒱 c bd i arg2 harg2 arg3 harg3 arg4 harg4 arg5 harg5 arg6 harg6 arg7 harg7 arg8 harg8 arg9 harg9 arg10 harg10 X2 X3 X4 X5 f7 f8 f9 n).1 j (ix2 r l)
        = ∑ q ∈ Finset.range n, part (arg2.view.read (Elt Ideal) X2) (arg3.view.read (Elt Ideal) X3) (arg5.view.read (Elt Ideal) X5) (i 1) j r l q)
    ∧ (∀ (q : Fin 24) (l : Fin 128), arg8.view.read (Elt Ideal) (arg8.view.writes (Elt Ideal) f8 (stN 𝒱 c bd i arg2 harg2 arg3 harg3 arg4 harg4 arg5 harg5 arg6 harg6 arg7 harg7 arg8 harg8 arg9 harg9 arg10 harg10 X2 X3 X4 X5 f7 f8 f9 n).2.2.1) (ix3 (n0 := 1) 0 q l)
        = if q.val < n ∧ l.val / 4 = (i 1).val then sc (aq (i 1) (arg2.view.read (Elt Ideal) X2) (arg3.view.read (Elt Ideal) X3) (arg4.view.read (Elt Ideal) X4) q ⟨l % 4, by omega⟩)
          else arg8.view.read (Elt Ideal) f8 (ix3 (n0 := 1) 0 q l)) := by
  induction n with
  | zero =>
    refine ⟨trivial, trivial, fun j r l => ?_, fun q l => ?_⟩
    · rw [Finset.sum_range_zero]; exact zero_at j r l
    · rw [if_neg (fun h => absurd h.1 (by omega))]; rfl
  | succ n ih =>
    obtain ⟨i7, i9, ic, i8⟩ := ih (by omega)
    unfold stN at i7 i9 ic i8 ⊢
    rw [st_k0_t1_succ 𝒱 c bd i arg2 harg2 arg3 harg3 arg4 harg4 arg5 harg5 arg6 harg6 arg7 harg7 arg8 harg8 arg9 harg9 arg10 harg10 _ _ _ X2 X3 X4 X5 f7 f8 f9 _ ⟨n, hn⟩]
    refine ⟨piecesOf_append i7 (pieces7 ..), piecesOf_append i9 (pieces9 ..), fun j r l => ?_, fun q l => ?_⟩
    · refine (R_at ..).trans ?_
      rw [Finset.sum_range_succ, ic]
      refine congrArg _ ?_
      unfold part
      rw [dif_pos (show n < 24 by have := trips_eq; omega)]
    · dsimp only
      rw [View.writes_append]
      refine (read8 ..).trans ?_
      rw [i8]
      by_cases ht : l.val / 4 = (i 1).val
      · by_cases hq : q.val = n
        · rw [if_pos (show q.val = n ∧ l.val / 4 = (i 1).val from ⟨hq, ht⟩), if_pos ⟨by omega, ht⟩]
          exact congrArg (fun q => sc (aq (i 1) (arg2.view.read (Elt Ideal) X2) (arg3.view.read (Elt Ideal) X3) (arg4.view.read (Elt Ideal) X4) q ⟨l % 4, by omega⟩)) (Fin.ext hq.symm)
        · rw [if_neg (show ¬(q.val = n ∧ l.val / 4 = (i 1).val) from fun h => hq h.1)]
          by_cases hl : q.val < n
          · rw [if_pos ⟨hl, ht⟩, if_pos ⟨by omega, ht⟩]
          · rw [if_neg (fun h => hl h.1), if_neg (fun h => absurd h.1 (by omega))]
      · rw [if_neg (show ¬(q.val = n ∧ l.val / 4 = (i 1).val) from fun h => ht h.2), if_neg (fun h => ht h.2), if_neg (fun h => ht h.2)]

/-- The carried sums of a column, added up, are the column's sum over every row. -/
theorem sum_parts (x0 : S3072x512.Idx → EReal) (x1 : S24x72.Idx → EReal) (x3 : S1x3072x128.Idx → EReal) (tile : Fin 18) (j : Fin 4) (l : Fin 128) :
    (∑ r : Fin 8, ∑ q ∈ Finset.range 24, part x0 x1 x3 tile j r l q) = ∑ k : Fin 3072, uq tile x0 x1 x3 k ⟨128 * j + l, by omega⟩ := by
  rw [Finset.sum_comm, Finset.sum_range, Fin.sum_univ_tiles 24 128 rfl (fun k : Fin 3072 => uq tile x0 x1 x3 k ⟨128 * j + l, by omega⟩)]
  refine Finset.sum_congr rfl fun q _ => ?_
  rw [Fin.sum_univ_tiles 16 8 rfl, Finset.sum_comm]
  refine Finset.sum_congr rfl fun r _ => ?_
  unfold part
  rw [dif_pos q.isLt]
  refine Finset.sum_congr rfl fun p _ => ?_
  exact congrArg (fun a => uq tile x0 x1 x3 a _) (Fin.ext (by show 128 * q.val + (p.val * 8 + r.val) = q.val * 128 + (p.val * 8 + r.val); omega))

end

section
variable (c : Dev nD) (i : grid0.Coords) (arg2 : Memref sig .tc .vmem S3072x512 .fp8e4m3) (harg2 : arg2.IsWhole)
  (arg3 : Memref sig .tc .smem S24x72 .f32) (harg3 : arg3.IsWhole) (arg4 : Memref sig .tc .vmem S1x3072x128 .f32) (harg4 : arg4.IsWhole)
  (arg5 : Memref sig .tc .vmem S1x3072x128 .f32) (harg5 : arg5.IsWhole) (arg6 : Memref sig .tc .vmem S1x512 .f32) (harg6 : arg6.IsWhole)
  (arg7 : Memref sig .tc .vmem S1x3072x512 .fp8e4m3) (harg7 : arg7.IsWhole) (arg8 : Memref sig .tc .vmem S1x24x128 .f32) (harg8 : arg8.IsWhole)
  (arg9 : Memref sig .tc .vmem S1x3072x512 .bf16) (harg9 : arg9.IsWhole) (arg10 : Memref sig .tc .vmem S1x1x512 .f32) (harg10 : arg10.IsWhole)
  (x0 : Vec Ideal S3072x512 .fp8e4m3) (x1 : Vec Ideal S24x72 .f32) (x2 : Vec Ideal S1x3072x128 .f32) (x3 : Vec Ideal S1x3072x128 .f32) (x4 : Vec Ideal S1x512 .f32) (x6 : Vec Ideal S1x24x128 .f32)

theorem loop_inv :
    View.PiecesOf (Val := Elt Ideal) (e := .fp8e4m3) (G7 (i 1) x0 x1 x2) (loopS (F := Ideal) Variants.none c none i arg2 harg2 arg3 harg3 arg4 harg4 arg5 harg5 arg6 harg6 arg7 harg7 arg8 harg8 arg9 harg9 arg10 harg10 x0 x1 x2 x3 x6).2.1
    ∧ View.PiecesOf (Val := Elt Ideal) (e := .bf16) (G9 (i 1) x0 x1 x2) (loopS (F := Ideal) Variants.none c none i arg2 harg2 arg3 harg3 arg4 harg4 arg5 harg5 arg6 harg6 arg7 harg7 arg8 harg8 arg9 harg9 arg10 harg10 x0 x1 x2 x3 x6).2.2.2
    ∧ (∀ (j : Fin 4) (r : Fin 8) (l : Fin 128), cmp (loopS (F := Ideal) Variants.none c none i arg2 harg2 arg3 harg3 arg4 harg4 arg5 harg5 arg6 harg6 arg7 harg7 arg8 harg8 arg9 harg9 arg10 harg10 x0 x1 x2 x3 x6).1 j (ix2 r l)
        = ∑ q ∈ Finset.range 24, part x0 x1 x3 (i 1) j r l q)
    ∧ (∀ (q : Fin 24) (l : Fin 128), arg8.view.read (Elt Ideal) (arg8.view.writes (Elt Ideal) (harg8.unread x6) (loopS (F := Ideal) Variants.none c none i arg2 harg2 arg3 harg3 arg4 harg4 arg5 harg5 arg6 harg6 arg7 harg7 arg8 harg8 arg9 harg9 arg10 harg10 x0 x1 x2 x3 x6).2.2.1) (ix3 (n0 := 1) 0 q l)
        = if l.val / 4 = (i 1).val then sc (aq (i 1) x0 x1 x2 q ⟨l % 4, by omega⟩) else x6 (ix3 (n0 := 1) 0 q l)) := by
  have h := st_inv Variants.none c none i arg2 harg2 arg3 harg3 arg4 harg4 arg5 harg5 arg6 harg6 arg7 harg7 arg8 harg8 arg9 harg9 arg10 harg10
    (harg2.unread x0) (harg3.unread x1) (harg4.unread x2) (harg5.unread x3) arg7.view.junk (harg8.unread x6) arg9.view.junk k0_t1_loop.trips le_rfl
  rw [harg2.read_unread, harg3.read_unread, harg4.read_unread, harg5.read_unread, harg8.read_unread] at h
  obtain ⟨h7, h9, hc, h8⟩ := h
  refine ⟨h7, h9, fun j r l => (hc j r l).trans (by rw [trips_eq]), fun q l => (h8 q l).trans ?_⟩
  have hq : q.val < k0_t1_loop.trips := by rw [trips_eq]; exact q.isLt
  simp only [hq, true_and]

theorem out5 : out0_5 (F := Ideal) c i arg2 harg2 arg3 harg3 arg4 harg4 arg5 harg5 arg6 harg6 arg7 harg7 arg8 harg8 arg9 harg9 arg10 harg10 x0 x1 x2 x3 x6 = G7 (i 1) x0 x1 x2 := by
  funext y
  unfold out0_5
  rw [View.read_writes_junk_eq_canon]
  exact View.canon_apply_of_pieces (G7 (i 1) x0 x1 x2) _ (loop_inv c i arg2 harg2 arg3 harg3 arg4 harg4 arg5 harg5 arg6 harg6 arg7 harg7 arg8 harg8 arg9 harg9 arg10 harg10 x0 x1 x2 x3 x6).1.mem y
    (cover0_5 c i arg2 harg2 arg3 harg3 arg4 harg4 arg5 harg5 arg6 harg6 arg7 harg7 arg8 harg8 arg9 harg9 arg10 harg10 x0 x1 x2 x3 x6 y)

theorem out7 : out0_7 (F := Ideal) c i arg2 harg2 arg3 harg3 arg4 harg4 arg5 harg5 arg6 harg6 arg7 harg7 arg8 harg8 arg9 harg9 arg10 harg10 x0 x1 x2 x3 x6 = G9 (i 1) x0 x1 x2 := by
  funext y
  unfold out0_7
  rw [View.read_writes_junk_eq_canon]
  exact View.canon_apply_of_pieces (G9 (i 1) x0 x1 x2) _ (loop_inv c i arg2 harg2 arg3 harg3 arg4 harg4 arg5 harg5 arg6 harg6 arg7 harg7 arg8 harg8 arg9 harg9 arg10 harg10 x0 x1 x2 x3 x6).2.1.mem y
    (cover0_7 c i arg2 harg2 arg3 harg3 arg4 harg4 arg5 harg5 arg6 harg6 arg7 harg7 arg8 harg8 arg9 harg9 arg10 harg10 x0 x1 x2 x3 x6 y)

theorem out6 (q : Fin 24) (l : Fin 128) : out0_6 (F := Ideal) c i arg2 harg2 arg3 harg3 arg4 harg4 arg5 harg5 arg6 harg6 arg7 harg7 arg8 harg8 arg9 harg9 arg10 harg10 x0 x1 x2 x3 x6 (ix3 (n0 := 1) 0 q l)
    = if l.val / 4 = (i 1).val then sc (aq (i 1) x0 x1 x2 q ⟨l % 4, by omega⟩) else x6 (ix3 (n0 := 1) 0 q l) := by
  refine Eq.trans ?_ ((loop_inv c i arg2 harg2 arg3 harg3 arg4 harg4 arg5 harg5 arg6 harg6 arg7 harg7 arg8 harg8 arg9 harg9 arg10 harg10 x0 x1 x2 x3 x6).2.2.2 q l)
  unfold out0_6
  exact congrFun (View.read_writes_of_cover _ _ _ _ _ (cover0_6 c i arg2 harg2 arg3 harg3 arg4 harg4 arg5 harg5 arg6 harg6 arg7 harg7 arg8 harg8 arg9 harg9 arg10 harg10 x0 x1 x2 x3 x6)).symm _

/-- The shift's product with the tile, plus the bias. -/
def G10 (tile : Fin 18) (x0 : S3072x512.Idx → EReal) (x1 : S24x72.Idx → EReal) (x3 : S1x3072x128.Idx → EReal) (x4 : S1x512.Idx → EReal) (y : S1x1x512.Idx) : EReal :=
  (∑ k : Fin 3072, uq tile x0 x1 x3 k (y 2)) + x4 (ix2 (n0 := 1) (n1 := 512) 0 (y 2))

theorem piece10 {offi : Fin 2 → ℕ} {offo : Fin 3 → ℕ} (inb : ∀ a, offi a + S1x128.size a ≤ S1x512.size a) (inbo : ∀ a, offo a + S1x1x128.size a ≤ S1x1x512.size a)
    (j : Fin 4) (hi : offi = ![0, 128 * j.val]) (ho : offo = ![0, 0, 128 * j.val]) (acc : FVec Ideal S8x128 .f32)
    (h : ∀ (r : Fin 8) (l : Fin 128), acc (ix2 r l) = ∑ q ∈ Finset.range 24, part x0 x1 x3 (i 1) j r l q) (y : S1x1x128.Idx) :
    k0_pay59 acc (View.readAt (Elt Ideal) arg6.view (Rect.unit (s := S1x512) offi S1x128.size inb).toLoadRect (harg6.unread x4)) y
      = G10 (i 1) x0 x1 x3 x4 ((Rect.unit (s := S1x1x512) offo S1x1x128.size inbo).emb y) := by
  subst hi ho
  idx_vars y
  obtain rfl : y0 = 0 := Subsingleton.elim _ _
  obtain rfl : y1 = 0 := Subsingleton.elim _ _
  have e : (Rect.unit (s := S1x1x512) ![0, 0, 128 * j.val] S1x1x128.size inbo).emb (ix3 0 0 y2) = ix3 (n0 := 1) (n1 := 1) (n2 := 512) 0 0 ⟨128 * j + y2, by omega⟩ := by
    funext a
    apply Fin.ext
    fin_cases a
    · rfl
    · rfl
    · show 128 * j.val + 1 * y2.val = 128 * j.val + y2.val
      rw [one_mul]
  have e' : (Rect.unit (s := S1x512) ![0, 128 * j.val] S1x128.size inb).toLoadRect.idx (ix2 (n0 := 1) (n1 := 128) 0 y2) = ix2 (n0 := 1) (n1 := 512) 0 ⟨128 * j + y2, by omega⟩ := by
    funext a
    apply Fin.ext
    fin_cases a
    · rfl
    · show 128 * j.val + 1 * y2.val = 128 * j.val + y2.val
      rw [one_mul]
  refine (pay59_at _ _ y2).trans ?_
  rw [e, View.readAt_apply, harg6.read_unread]
  simp only [h]
  refine congrArg₂ (· + ·) (sum_parts x0 x1 x3 (i 1) j y2) (congrArg x4 e')

theorem piecesC (acc : FVec Ideal S8x128 .f32 × FVec Ideal S8x128 .f32 × FVec Ideal S8x128 .f32 × FVec Ideal S8x128 .f32)
    (h : ∀ (j : Fin 4) (r : Fin 8) (l : Fin 128), cmp acc j (ix2 r l) = ∑ q ∈ Finset.range 24, part x0 x1 x3 (i 1) j r l q) :
    View.PiecesOf (Val := Elt Ideal) (e := .f32) (G10 (i 1) x0 x1 x3 x4) (cL arg6 harg6 acc x4) := by
  unfold cL
  simp only [View.PiecesOf]
  exact ⟨piece10 i arg6 harg6 x0 x1 x3 x4 _ _ 3 rfl rfl acc.2.2.2 (h 3), piece10 i arg6 harg6 x0 x1 x3 x4 _ _ 2 rfl rfl acc.2.2.1 (h 2),
    piece10 i arg6 harg6 x0 x1 x3 x4 _ _ 1 rfl rfl acc.2.1 (h 1), piece10 i arg6 harg6 x0 x1 x3 x4 _ _ 0 rfl rfl acc.1 (h 0), trivial⟩

theorem out8 : out0_8 (F := Ideal) c i arg2 harg2 arg3 harg3 arg4 harg4 arg5 harg5 arg6 harg6 arg7 harg7 arg8 harg8 arg9 harg9 arg10 harg10 x0 x1 x2 x3 x4 x6 = G10 (i 1) x0 x1 x3 x4 := by
  funext y
  unfold out0_8
  rw [View.read_writes_junk_eq_canon]
  exact View.canon_apply_of_pieces (G10 (i 1) x0 x1 x3 x4) _ (piecesC i arg6 harg6 x0 x1 x3 x4 _ (loop_inv c i arg2 harg2 arg3 harg3 arg4 harg4 arg5 harg5 arg6 harg6 arg7 harg7 arg8 harg8 arg9 harg9 arg10 harg10 x0 x1 x2 x3 x6).2.2.1).mem y
    (cover0_8 c i arg2 harg2 arg3 harg3 arg4 harg4 arg5 harg5 arg6 harg6 arg7 harg7 arg8 harg8 arg9 harg9 arg10 harg10 x0 x1 x2 x3 x4 x6 y)

end

end Cert.WeightIdeal.WeightValue

end
-- ==== Proof.WeightValue.lean ====
/-
The weight kernel's four arrays after the run, each a function of the arguments: every point's blocks are blocks of those functions, and
the scales' block gains four columns at each tile of a batch element.
-/
module

public import proofs.«01_k».proof.Proof.WeightSpec
public import proofs.«01_k».proof.Proof.WeightLoop

@[expose] public section

set_option maxRecDepth 16384

noncomputable section

namespace Cert.WeightIdeal.WeightValue

open Idealize.ShloMosaic Idealize.ShloMosaic.TcCoe Idealize.ShloMosaic.Tactic Idealize.SL.Sem
open Idealize.ShloMosaic.Pipeline (Dat)
open Cert.WeightIdeal Cert.WeightIdeal.Gen
open Cert.ActIdeal.ActValue (ex sc iv)

variable (m : (ℓ : Loc nD τ sig) → Buf (Elt Ideal) ℓ)

/-- The arguments. -/
abbrev aM (c : Dev nD) : S2x3072.Idx → EReal := m ((c : Thread nD τ).loc main_arg0)
abbrev aSh (c : Dev nD) : S2x3072.Idx → EReal := m ((c : Thread nD τ).loc main_arg1)
abbrev aW (c : Dev nD) : S3072x9216.Idx → EReal := m ((c : Thread nD τ).loc main_arg2)
abbrev aS (c : Dev nD) : S24x72.Idx → EReal := m ((c : Thread nD τ).loc main_arg3)
abbrev aB (c : Dev nD) : S9216.Idx → EReal := m ((c : Thread nD τ).loc main_arg4)

/-! ## What the lines before the call hand it -/

theorem V_v1 (c : Dev nD) (b : Fin 2) (k : Fin 3072) (l : Fin 128) : V m c main_v1 (ix3 b k l) = aM m c (ix2 b k) := by
  show StableHlo.after hostOps0 _ (Proc.devRef .tc main_v1) _ = _
  after_results
  pointwise []

theorem V_v3 (c : Dev nD) (b : Fin 2) (k : Fin 3072) (l : Fin 128) : V m c main_v3 (ix3 b k l) = aSh m c (ix2 b k) := by
  show StableHlo.after hostOps0 _ (Proc.devRef .tc main_v3) _ = _
  after_results
  pointwise []

theorem V_v4 (c : Dev nD) (n : Fin 9216) : V m c main_v4 (ix2 (n0 := 1) 0 n) = aB m c (ix1 n) := by
  show StableHlo.after hostOps0 _ (Proc.devRef .tc main_v4) _ = _
  after_results
  pointwise []

/-! ## The blocks of a point -/

theorem co : ∀ t : Fin grid0.N, (grid0.coords t 0).val = t.val / 18 ∧ (grid0.coords t 1).val = t.val % 18 := by decide +kernel

theorem idx : ∀ t : Fin cfg0.N,
    win0_0.index t = ![0, (grid0.coords t 1).val] ∧ win0_1.index t = ![0, 0]
    ∧ win0_2.index t = ![(grid0.coords t 0).val, 0, 0] ∧ win0_3.index t = ![(grid0.coords t 0).val, 0, 0]
    ∧ win0_4.index t = ![0, (grid0.coords t 1).val] ∧ win0_5.index t = ![(grid0.coords t 0).val, 0, (grid0.coords t 1).val]
    ∧ win0_6.index t = ![(grid0.coords t 0).val, 0, 0] ∧ win0_7.index t = ![(grid0.coords t 0).val, 0, (grid0.coords t 1).val]
    ∧ win0_8.index t = ![(grid0.coords t 0).val, 0, (grid0.coords t 1).val] :=
  (by decide +kernel : ∀ t : Fin grid0.N, _)

variable (c : Dev nD) (t : Fin cfg0.N)

/-- A point's batch element and tile, and a tile's column in the whole weight. -/
abbrev bt : Fin 2 := grid0.coords t 0
abbrev ti : Fin 18 := grid0.coords t 1
abbrev col (n : Fin 512) : Fin 9216 := ⟨512 * (ti t).val + n, by have := (ti t).isLt; omega⟩

theorem blk0 (k : Fin 3072) (n : Fin 512) : (iblk m c 0 t : S3072x512.Idx → EReal) (ix2 k n) = aW m c (ix2 k (col t n)) := by
  blk_point [iblk, idx t, V_main_arg2]
  exact congrArg (· + n.val) (Nat.mul_comm _ _)

theorem blk1 (q : Fin 24) (j : Fin 72) : (iblk m c 1 t : S24x72.Idx → EReal) (ix2 q j) = aS m c (ix2 q j) := by
  blk_point [iblk, idx t, V_main_arg3]

theorem blk2 (k : Fin 3072) (l : Fin 128) : (iblk m c 2 t : S1x3072x128.Idx → EReal) (ix3 (n0 := 1) 0 k l) = aM m c (ix2 (bt t) k) := by
  refine Eq.trans (b := V m c main_v1 (ix3 (bt t) k l)) ?_ (V_v1 ..)
  blk_point [iblk, idx t]
  rfl

theorem blk3 (k : Fin 3072) (l : Fin 128) : (iblk m c 3 t : S1x3072x128.Idx → EReal) (ix3 (n0 := 1) 0 k l) = aSh m c (ix2 (bt t) k) := by
  refine Eq.trans (b := V m c main_v3 (ix3 (bt t) k l)) ?_ (V_v3 ..)
  blk_point [iblk, idx t]
  rfl

theorem blk4 (n : Fin 512) : (iblk m c 4 t : S1x512.Idx → EReal) (ix2 (n0 := 1) 0 n) = aB m c (ix1 (col t n)) := by
  refine Eq.trans (b := V m c main_v4 (ix2 (n0 := 1) 0 (col t n))) ?_ (V_v4 ..)
  blk_point [iblk, idx t]
  exact congrArg (· + n.val) (Nat.mul_comm _ _)

/-! ## The point's functions are the arguments' -/

theorem wq_eq (k : Fin 3072) (n : Fin 512) : wq (ti t) (iblk m c 0 t) (iblk m c 1 t) k n = uu (aW m c) (aS m c) k (col t n) := by
  unfold wq uu
  refine congrArg₂ (· * ·) (blk0 m c t k n) ((blk1 m c t _ _).trans (congrArg (fun j => aS m c (ix2 _ j)) (Fin.ext ?_)))
  show 4 * (ti t).val + n.val / 128 = (512 * (ti t).val + n.val) / 128
  omega

theorem vq_eq (k : Fin 3072) (n : Fin 512) :
    vq (ti t) (iblk m c 0 t) (iblk m c 1 t) (iblk m c 2 t) k n = vv (aM m c) (aW m c) (aS m c) (bt t) k (col t n) := by
  unfold vq vv
  rw [wq_eq]
  exact congrArg (fun a => (1 + a) * _) (blk2 m c t k _)

theorem uq_eq (k : Fin 3072) (n : Fin 512) :
    uq (ti t) (iblk m c 0 t) (iblk m c 1 t) (iblk m c 3 t) k n = aSh m c (ix2 (bt t) k) * uu (aW m c) (aS m c) k (col t n) := by
  unfold uq
  rw [wq_eq]
  exact congrArg (fun a => a * _) (blk3 m c t k _)

theorem aq_eq (q : Fin 24) (j : Fin 4) (j' : Fin 72) (h : j'.val = 4 * (ti t).val + j.val) :
    aq (ti t) (iblk m c 0 t) (iblk m c 1 t) (iblk m c 2 t) q j = aa (aM m c) (aW m c) (aS m c) (bt t) q j' := by
  unfold aq aa
  refine congrArg am2 (funext fun r => funext fun l => ?_)
  rw [vq_eq]
  refine congrArg (vv (aM m c) (aW m c) (aS m c) (bt t) _) (Fin.ext ?_)
  show 512 * (ti t).val + (128 * j.val + l.val) = 128 * j'.val + l.val
  omega

theorem G7_eq (k : Fin 3072) (n : Fin 512) :
    G7 (ti t) (iblk m c 0 t) (iblk m c 1 t) (iblk m c 2 t) (ix3 (n0 := 1) 0 k n) = cd3 (aM m c) (aW m c) (aS m c) (bt t) k (col t n) := by
  unfold G7 cd3
  refine congrArg₂ codeOf (vq_eq m c t k n) (aq_eq m c t _ _ _ ?_)
  show (512 * (ti t).val + n.val) / 128 = 4 * (ti t).val + n.val / 128
  omega

theorem G9_eq (k : Fin 3072) (n : Fin 512) :
    G9 (ti t) (iblk m c 0 t) (iblk m c 1 t) (iblk m c 2 t) (ix3 (n0 := 1) 0 k n) = wb_ (aM m c) (aW m c) (aS m c) (bt t) k (col t n) := by
  unfold G9 wb_
  refine congrArg₂ (· * ·) (G7_eq m c t k n) (congrArg sc (aq_eq m c t _ _ _ ?_))
  show (512 * (ti t).val + n.val) / 128 = 4 * (ti t).val + n.val / 128
  omega

theorem G10_eq (n : Fin 512) :
    G10 (ti t) (iblk m c 0 t) (iblk m c 1 t) (iblk m c 3 t) (iblk m c 4 t) (ix3 (n0 := 1) (n1 := 1) 0 0 n)
      = T8 (aSh m c) (aW m c) (aS m c) (aB m c) (ix3 (n1 := 1) (bt t) 0 (col t n)) := by
  unfold G10 T8
  exact congrArg₂ (· + ·) (Finset.sum_congr rfl fun k _ => uq_eq m c t k n) (blk4 m c t n)

/-! ## The scales' block, point by point -/

/-- The scales in the first 72 columns, zeros after. -/
def scl (b : Fin 2) (q : Fin 24) (l : Fin 128) : EReal := if h : l.val < 72 then sc (aa (aM m c) (aW m c) (aS m c) b q ⟨l, h⟩) else 0

theorem if_congr' {p q : Prop} [Decidable p] [Decidable q] {a b e : EReal} (hpq : p ↔ q) (h : q → a = b) :
    (if p then a else e) = if q then b else e := by
  by_cases hq : q
  · rw [if_pos hq, if_pos (hpq.mpr hq), h hq]
  · rw [if_neg hq, if_neg fun hp => hq (hpq.mp hp)]

theorem step_at (x6 : Vec Ideal S1x24x128 .f32) (q : Fin 24) (l : Fin 128) :
    msStep m c t x6 (ix3 (n0 := 1) 0 q l) = if l.val / 4 = (ti t).val then scl m c (bt t) q l else x6 (ix3 (n0 := 1) 0 q l) := by
  have ht := (ti t).isLt
  refine (show msStep m c t x6 (ix3 (n0 := 1) 0 q l) = if l.val / 4 = (ti t).val then _ else x6 (ix3 (n0 := 1) 0 q l) from out6 ..).trans ?_
  refine if_congr' Iff.rfl (fun h => ?_)
  unfold scl
  rw [dif_pos (by omega)]
  exact congrArg sc (aq_eq m c t q _ _ (by show l.val = 4 * (ti t).val + l.val % 4; omega))

theorem x6At_eq : ∀ (n : ℕ) (hn : n < cfg0.N) (q : Fin 24) (l : Fin 128),
    x6At m c n hn (ix3 (n0 := 1) 0 q l) = if l.val / 4 < n % 18 then scl m c (bt ⟨n, hn⟩) q l else 0
  | 0, hn, q, l => by
    rw [if_neg (by omega)]
    exact Ideal.ofBits_zero_f32
  | n + 1, hn, q, l => by
    have hc := co ⟨n, Nat.lt_of_succ_lt hn⟩
    have hc' := co ⟨n + 1, hn⟩
    by_cases h0 : (n + 1) % 18 = 0
    · rw [x6At_A m c ⟨n + 1, hn⟩ h0, if_neg (by omega)]
      exact Ideal.ofBits_zero_f32
    · rw [x6At_B m c ⟨n + 1, hn⟩ h0]
      have hb : bt ⟨n + 1, hn⟩ = bt ⟨n, Nat.lt_of_succ_lt hn⟩ := Fin.ext (by rw [hc.1, hc'.1]; dsimp only; omega)
      rw [hb]
      refine (step_at m c ⟨n, Nat.lt_of_succ_lt hn⟩ _ q l).trans ?_
      have ht : (ti ⟨n, Nat.lt_of_succ_lt hn⟩).val = n % 18 := hc.2
      have ih := x6At_eq n (Nat.lt_of_succ_lt hn) q l
      rw [ht]
      by_cases h : l.val / 4 = n % 18
      · rw [if_pos h, if_pos (by omega)]
      · rw [if_neg h]
        refine ih.trans ?_
        by_cases h' : l.val / 4 < n % 18
        · rw [if_pos h', if_pos (by omega)]
        · rw [if_neg h', if_neg (by omega)]

/-- At a batch element's last tile the scales' block holds every scale. -/
theorem ms_last (h : t.val % 18 = 17) (q : Fin 24) (l : Fin 128) :
    msStep m c t (x6At m c t.val t.isLt) (ix3 (n0 := 1) 0 q l) = scl m c (bt t) q l := by
  rw [step_at, x6At_eq]
  have ht : (ti t).val = t.val % 18 := (co t).2
  rw [ht, h]
  by_cases h1 : l.val / 4 = 17
  · rw [if_pos h1]
  · rw [if_neg h1]
    by_cases h2 : l.val / 4 < 17
    · rw [if_pos h2]
    · rw [if_neg h2]
      unfold scl
      rw [dif_neg (by omega)]

/-! ## The arrays -/

variable (f : S2x3072x9216.Idx → EReal)

theorem arr5 (k : Fin 3072) (n : Fin 512) : f (ix3 (bt t) k (col t n)) = f ((win0_5.blk t).view.emb (ix3 (n0 := 1) 0 k n)) := by
  blk_point [idx t]
  · rfl
  · exact congrArg (· + n.val) (Nat.mul_comm _ _)

theorem arr7 (k : Fin 3072) (n : Fin 512) : f (ix3 (bt t) k (col t n)) = f ((win0_7.blk t).view.emb (ix3 (n0 := 1) 0 k n)) := by
  blk_point [idx t]
  · rfl
  · exact congrArg (· + n.val) (Nat.mul_comm _ _)

theorem arr8 (f : S2x1x9216.Idx → EReal) (n : Fin 512) :
    f (ix3 (n1 := 1) (bt t) 0 (col t n)) = f ((win0_8.blk t).view.emb (ix3 (n0 := 1) (n1 := 1) 0 0 n)) := by
  blk_point [idx t]
  · rfl
  · exact congrArg (· + n.val) (Nat.mul_comm _ _)

theorem arr6 (f : S2x24x128.Idx → EReal) (q : Fin 24) (l : Fin 128) :
    f (ix3 (bt t) q l) = f ((win0_6.blk t).view.emb (ix3 (n0 := 1) 0 q l)) := by
  blk_point [idx t]
  rfl

theorem final5 : (dats m 0 c).arrAt 5 (cfgs 0).N = T5 (aM m c) (aW m c) (aS m c) := by
  refine (dats m 0 c).arrAt_eq_of_covers 5 _ (by decide +kernel) fun t _ y => ?_
  blk_simp
  rw [after0_5]
  unfold outsAt0
  dsimp only
  rw [out5]
  idx_vars y
  obtain rfl : y0 = 0 := Subsingleton.elim _ _
  refine (G7_eq m c t y1 y2).trans ?_
  exact arr5 t (T5 (aM m c) (aW m c) (aS m c)) y1 y2

theorem final7 : (dats m 0 c).arrAt 7 (cfgs 0).N = T7 (aM m c) (aW m c) (aS m c) := by
  refine (dats m 0 c).arrAt_eq_of_covers 7 _ (by decide +kernel) fun t _ y => ?_
  blk_simp
  rw [after0_7]
  unfold outsAt0
  dsimp only
  rw [out7]
  idx_vars y
  obtain rfl : y0 = 0 := Subsingleton.elim _ _
  refine (G9_eq m c t y1 y2).trans ?_
  exact arr7 t (T7 (aM m c) (aW m c) (aS m c)) y1 y2

theorem final8 : (dats m 0 c).arrAt 8 (cfgs 0).N = T8 (aSh m c) (aW m c) (aS m c) (aB m c) := by
  refine (dats m 0 c).arrAt_eq_of_covers 8 _ (by decide +kernel) fun t _ y => ?_
  blk_simp
  rw [after0_8]
  unfold outsAt0
  dsimp only
  rw [out8]
  idx_vars y
  obtain rfl : y0 = 0 := Subsingleton.elim _ _
  obtain rfl : y1 = 0 := Subsingleton.elim _ _
  refine (G10_eq m c t y2).trans ?_
  exact arr8 t (T8 (aSh m c) (aW m c) (aS m c) (aB m c)) y2

theorem final6 : (dats m 0 c).arrAt 6 (cfgs 0).N = fun y : S2x24x128.Idx => scl m c (y 0) (y 1) (y 2) := by
  refine (dats m 0 c).arrAt_eq_of_covers 6 _ (by decide +kernel) fun t h y => ?_
  blk_simp
  rw [after0_6]
  unfold outsAt0
  dsimp only
  idx_vars y
  obtain rfl : y0 = 0 := Subsingleton.elim _ _
  have h := (flush0_6 t).mp h
  refine (ms_last m c t h y1 y2).trans ?_
  exact arr6 t (fun y : S2x24x128.Idx => scl m c (y 0) (y 1) (y 2)) y1 y2

/-- The sliced scales. -/
theorem tail6 : Pipeline.afterTail₀ cfgs (dats m) 0 (V0 m) [hostOps1] c main_v6 = T6 (aM m c) (aW m c) (aS m c) := by
  unfold Pipeline.afterTail₀
  show StableHlo.after hostOps1 _ (Proc.devRef .tc main_v6) = _
  after_results
  have e := (Pipeline.withArrays_arr (cfgs 0).spec (by decide +kernel) c (V0 m c) (fun w => (dats m 0 c).arrAt w (cfgs 0).N) 6).trans (final6 m c)
  refine (congrArg (fun x : Vec Ideal S2x24x128 .f32 => extractStridedSlice S2x24x72 ![0, 0, 0] x slices_S2x24x128_S2x24x72_0_0_0) e).trans ?_
  funext y
  idx_vars y
  pointwise []
  unfold scl
  exact dif_pos y2.isLt

/-- The kernel's run: its four results are the functions of the arguments, which are unchanged. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v5_0) = T5 (aM m c) (aW m c) (aS m c)
    ∧ r.2.mem ((c.tc : Thread nD τ).loc main_v6) = T6 (aM m c) (aW m c) (aS m c)
    ∧ r.2.mem ((c.tc : Thread nD τ).loc main_v5_2) = T7 (aM m c) (aW m c) (aS m c)
    ∧ r.2.mem ((c.tc : Thread nD τ).loc main_v5_3) = T8 (aSh m c) (aW m c) (aS m c) (aB m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun r h c => ⟨((h c).1 5).trans (final5 m c),
    ((h c).2 main_v6 (Pipeline.mem_restRefs_of main_v6 (by decide) (by decide))).trans (tail6 m c),
    ((h c).1 7).trans (final7 m c), ((h c).1 8).trans (final8 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).1 0).trans (((dats m 0 c).arrAt_in 0 rfl _).trans ((A_eq m c 0).trans (V_main_arg2 m c))),
    ((h c).1 1).trans (((dats m 0 c).arrAt_in 1 rfl _).trans ((A_eq m c 1).trans (V_main_arg3 m c))),
    ((h c).2 main_arg4 (Pipeline.mem_restRefs_of main_arg4 (by decide) (by decide))).trans (W_main_arg4 m (dats m) c)⟩) (run_main m ρ)

end Cert.WeightIdeal.WeightValue

end
-- ==== Proof.MatmulValue.lean ====
/-
  The value of the matrix product at the ideal instance: after the run, the kernel's result array holds at every index
  the sum over the 3072 contracted positions of activation times weight, plus the column's bias, the term that the
  reference's run leaves.
-/
module

public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.MatmulValue

open Cert.KernelIdeal Cert.KernelIdeal.Gen

variable (m : (ℓ : Loc nD τ sig) → Buf (Elt Ideal) ℓ)

/-- The reference's composed term over three arrays. -/
abbrev REF (X : FVec Ideal S2x4096x3072 .bf16) (W : FVec Ideal S2x3072x9216 .bf16) (C : FVec Ideal S2x1x9216 .f32) :
    FVec Ideal S2x4096x9216 .bf16 :=
  truncf .bf16 (addf (Host.dotGeneral Cert.ReferenceIdeal.dot_S2x4096x3072_S2x3072x9216_S2x4096x9216_2_1_1_2_0_0 none X W)
    (broadcastInDim Cert.ReferenceIdeal.S2x4096x9216 ![0, 1, 2]
      Cert.ReferenceIdeal.Gen.bcast_S2x1x9216_S2x4096x9216_0_1_2 C))
    Cert.ReferenceIdeal.Gen.bitsLt_bf16_f32

/-- Every window's block index at every grid point: batch, row tile and column tile of the point. -/
theorem idx : ∀ t : Fin cfg0.N,
    win0_0.index t = ![(grid0.coords t 0).val, (grid0.coords t 1).val, 0]
    ∧ win0_1.index t = ![(grid0.coords t 0).val, 0, (grid0.coords t 2).val]
    ∧ win0_2.index t = ![(grid0.coords t 0).val, 0, (grid0.coords t 2).val]
    ∧ win0_3.index t = ![(grid0.coords t 0).val, (grid0.coords t 1).val, (grid0.coords t 2).val] :=
  (by decide +kernel : ∀ t : Fin grid0.N, _)

/-- What the body stores at index `y` of its block is the reference's term at the place of `y` in the array. -/
theorem point (c : Dev nD) (t : Fin cfg0.N) (y) :
    k0_pay1 (iblk m c 0 t) (iblk m c 1 t) (iblk m c 2 t) y
      = REF (m ((c : Thread nD τ).loc main_arg0)) (m ((c : Thread nD τ).loc main_arg1))
          (m ((c : Thread nD τ).loc main_arg2)) (((cfg0.win 3).blk t).view.emb y) := by
  pointwise [k0_pay1, REF]
  blk_point [iblk, V, idx t]

/-- The reference's term at device `c`'s arguments. -/
abbrev value (c : Dev nD) : Buf (Elt Ideal) ((c : Thread nD τ).loc main_v0) :=
  REF (m ((c : Thread nD τ).loc main_arg0)) (m ((c : Thread nD τ).loc main_arg1)) (m ((c : Thread nD τ).loc main_arg2))

/-- The result array after the run. -/
theorem final (c : Dev nD) : (dats m 0 c).arrAt 3 (cfgs 0).N = value m c := by
  refine (dats m 0 c).arrAt_eq_of_covers 3 _ (by decide +kernel) fun t _ y => ?_
  blk_simp
  rw [after0_3]; frame_out
  exact point m c t y

end Cert.KernelIdeal.MatmulValue

end
-- ==== Proof.lean ====
module

public import proofs.«01_k».proof.Defs
public import proofs.«01_k».proof.Proof.Gen.Act
public import proofs.«01_k».proof.Proof.ActFrameBits
public import proofs.«01_k».proof.Proof.Gen.ActIdeal
public import proofs.«01_k».proof.Proof.Gen.ActReferenceIdeal
public import proofs.«01_k».proof.Proof.Gen.ActReferenceIdeal.Frame
public import proofs.«01_k».proof.Proof.ActFrame
public import proofs.«01_k».proof.Proof.ActRef
public import proofs.«01_k».proof.Proof.ActValue
public import proofs.«01_k».proof.Proof.Gen.Weight
public import proofs.«01_k».proof.Proof.WeightFrameBits
public import proofs.«01_k».proof.Proof.Gen.WeightIdeal
public import proofs.«01_k».proof.Proof.WeightFrame
public import proofs.«01_k».proof.Proof.Gen.WeightReferenceIdeal
public import proofs.«01_k».proof.Proof.Gen.WeightReferenceIdeal.Frame
public import proofs.«01_k».proof.Proof.WeightRef
public import proofs.«01_k».proof.Proof.WeightValue
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.MatmulValue
public import proofs.«01_k».proof.Proof.Gen.KernelIdeal.Value
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.ShloMosaic.TcCoe Idealize.SL.Sem

/-! ## The activation call -/

/-- The activation call's three arrays are its reference's, from memories that agree on the argument. -/
theorem act_algebraic : Cert.algebraic_ActIdeal_ActReferenceIdeal (hActIdeal := Cert.ActIdeal.Gen.facts)
    (hActReferenceIdeal := Cert.ActReferenceIdeal.Gen.facts) := fun m ρ m' ρ' _ hm =>
  ⟨fun c => Cert.ActIdeal.ActValue.T1 (m ((c.tc : Thread _ _).loc Cert.ActIdeal.main_arg0)),
    fun c => Cert.ActIdeal.ActValue.T2 (m ((c.tc : Thread _ _).loc Cert.ActIdeal.main_arg0)),
    fun c => Cert.ActIdeal.ActValue.T3 (m ((c.tc : Thread _ _).loc Cert.ActIdeal.main_arg0)),
    Cert.ActIdeal.ActValue.run m ρ,
    (θ_run _ _ _).mono (fun r h c => ⟨(h c).1.trans (by rw [hm c]), (h c).2.1.trans (by rw [hm c]), (h c).2.2.1.trans (by rw [hm c]), (h c).2.2.2⟩)
      (Cert.ActReferenceIdeal.ActValue.run m' ρ')⟩

/-! ## The weight call -/

/-- The weight call's four results are its reference's, from memories that agree on the arguments. -/
theorem weight_algebraic : Cert.algebraic_WeightIdeal_WeightReferenceIdeal (hWeightIdeal := Cert.WeightIdeal.Gen.facts)
    (hWeightReferenceIdeal := Cert.WeightReferenceIdeal.Gen.facts) := fun m ρ m' ρ' _ hm =>
  ⟨fun c => Cert.WeightIdeal.WeightValue.T5 (m ((c.tc : Thread _ _).loc Cert.WeightIdeal.main_arg0)) (m ((c.tc : Thread _ _).loc Cert.WeightIdeal.main_arg2)) (m ((c.tc : Thread _ _).loc Cert.WeightIdeal.main_arg3)),
    fun c => Cert.WeightIdeal.WeightValue.T6 (m ((c.tc : Thread _ _).loc Cert.WeightIdeal.main_arg0)) (m ((c.tc : Thread _ _).loc Cert.WeightIdeal.main_arg2)) (m ((c.tc : Thread _ _).loc Cert.WeightIdeal.main_arg3)),
    fun c => Cert.WeightIdeal.WeightValue.T7 (m ((c.tc : Thread _ _).loc Cert.WeightIdeal.main_arg0)) (m ((c.tc : Thread _ _).loc Cert.WeightIdeal.main_arg2)) (m ((c.tc : Thread _ _).loc Cert.WeightIdeal.main_arg3)),
    fun c => Cert.WeightIdeal.WeightValue.T8 (m ((c.tc : Thread _ _).loc Cert.WeightIdeal.main_arg1)) (m ((c.tc : Thread _ _).loc Cert.WeightIdeal.main_arg2)) (m ((c.tc : Thread _ _).loc Cert.WeightIdeal.main_arg3)) (m ((c.tc : Thread _ _).loc Cert.WeightIdeal.main_arg4)),
    Cert.WeightIdeal.WeightValue.run m ρ,
    (θ_run _ _ _).mono (fun r h c => ⟨(h c).1.trans (by rw [(hm c).1, (hm c).2.2.1, (hm c).2.2.2.1]),
        (h c).2.1.trans (by rw [(hm c).1, (hm c).2.2.1, (hm c).2.2.2.1]), (h c).2.2.1.trans (by rw [(hm c).1, (hm c).2.2.1, (hm c).2.2.2.1]),
        (h c).2.2.2.1.trans (by rw [(hm c).2.1, (hm c).2.2.1, (hm c).2.2.2.1, (hm c).2.2.2.2]), (h c).2.2.2.2⟩)
      (Cert.WeightReferenceIdeal.WeightValue.run m' ρ')⟩

/-! ## The matrix product -/

/-- The reference is host operations only: its run leaves the arguments, and it declares no semaphore. -/
theorem reference_frame : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run m ρ)

/-- The kernel's result array is the reference's, from memories that agree on the arguments. -/
theorem algebraic : Cert.algebraic_KernelIdeal_ReferenceIdeal (hKernelIdeal := Cert.KernelIdeal.Gen.facts)
    (hReferenceIdeal := Cert.ReferenceIdeal.Gen.facts) := fun m ρ m' ρ' _ hm =>
  ⟨Cert.KernelIdeal.MatmulValue.value m,
    (θ_run _ _ _).mono (fun r h c => ⟨(h c).1.trans (Cert.KernelIdeal.MatmulValue.final m c), (h c).2⟩)
      (Cert.KernelIdeal.Value.run_blocks m ρ),
    (θ_run _ _ _).mono (fun r h c => ⟨(h c).1.trans (by rw [(hm c).1, (hm c).2.1, (hm c).2.2]), (h c).2⟩)
      (Cert.ReferenceIdeal.Value.run m' ρ')⟩

theorem claim : Cert.Claim := ⟨Cert.Act.Gen.facts, Cert.ActIdeal.Gen.facts, Cert.ActReferenceIdeal.Gen.facts,
  Cert.Weight.Gen.facts, Cert.WeightIdeal.Gen.facts, Cert.WeightReferenceIdeal.Gen.facts,
  Cert.Kernel.Gen.facts, Cert.KernelIdeal.Gen.facts, Cert.ReferenceIdeal.Gen.facts,
  fun m ρ _ => Cert.Act.Gen.frame m ρ, fun m ρ _ => Cert.ActIdeal.Gen.frame m ρ, fun m ρ _ => Cert.ActReferenceIdeal.Gen.frame m ρ,
  fun m ρ _ => Cert.Weight.Gen.frame m ρ, fun m ρ _ => Cert.WeightIdeal.Gen.frame m ρ, fun m ρ _ => Cert.WeightReferenceIdeal.Gen.frame m ρ,
  fun m ρ _ => Cert.Kernel.Gen.frame m ρ, fun m ρ _ => Cert.KernelIdeal.Gen.frame m ρ, reference_frame,
  trivial, act_algebraic, trivial, weight_algebraic, trivial, algebraic⟩

end Cert.Proof

end
